-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S4096x64 : Shape := ⟨2, ![4096, 64]⟩
abbrev S32x128x64 : Shape := ⟨3, ![32, 128, 64]⟩
abbrev S32 : Shape := ⟨1, ![32]⟩
abbrev S_ : Shape := ⟨0, ![]⟩
abbrev S128x2048 : Shape := ⟨2, ![128, 2048]⟩
abbrev S128x64 : Shape := ⟨2, ![128, 64]⟩
abbrev S1x128x64 : Shape := ⟨3, ![1, 128, 64]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S128x4096, .bf16⟩
  | .hbm, ⟨1, _⟩ => ⟨S4096x2048, .bf16⟩
  | .hbm, ⟨2, _⟩ => ⟨S4096x64, .f32⟩
  | .local _ .vmem, ⟨0, _⟩ => ⟨S128x4096, .bf16⟩
  | .local _ .vmem, ⟨1, _⟩ => ⟨S4096x2048, .bf16⟩
  | .local _ .vmem, ⟨2, _⟩ => ⟨S4096x64, .f32⟩
  | .local _ .vmem, ⟨3, _⟩ => ⟨S32x128x64, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c1_i32_0 : BitVec 32 := 1#32
  let c31_i32 : BitVec 32 := 31#32
  let v4 : BitVec 32 := Scalar.addi c1_i32_0 c31_i32
  let c1_i32_1 : BitVec 32 := 1#32
  ⟨c1_i32_0, v4, c1_i32_1⟩
def k0_dev1 (d0 : Dev nD) (k0_t1 : Fin k0_t1_loop.trips) : Nat :=
  let c0_i32_1077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let c1_i32_1 : BitVec 32 := 1#32
  let arg6 : BitVec 32 := Scf.iv c1_i32_0 c1_i32_1 k0_t1
  let v1541 : BitVec 32 := Scalar.addi v2 arg6
  let c32_i32_1069 : BitVec 32 := 32#32
  let c0_i32_1070 : BitVec 32 := 0#32
  let v1542 : BitVec 1 := Scalar.cmpi .eq c32_i32_1069 c0_i32_1070
  let c1_i32_1071 : BitVec 32 := 1#32
  let v1543 : BitVec 32 := Scalar.select v1542 c1_i32_1071 c32_i32_1069
  let v1544 : BitVec 32 := Scalar.remsi v1541 v1543
  let c0_i32_1073 : BitVec 32 := 0#32
  let v1546 : BitVec 1 := Scalar.cmpi .slt v1544 c0_i32_1073
  let c0_i32_1074 : BitVec 32 := 0#32
  let v1547 : BitVec 1 := Scalar.cmpi .slt v1543 c0_i32_1074
  let v1548 : BitVec 1 := Scalar.xori v1546 v1547
  let c0_i32_1072 : BitVec 32 := 0#32
  let v1545 : BitVec 1 := Scalar.cmpi .ne v1544 c0_i32_1072
  let v1549 : BitVec 1 := Scalar.andi v1548 v1545
  let v1550 : BitVec 32 := Scalar.addi v1544 v1543
  let v1551 : BitVec 32 := Scalar.select v1549 v1550 v1544
  let c1_i32_1076 : BitVec 32 := 1#32
  let v1552 : BitVec 32 := Scalar.muli v1551 c1_i32_1076
  let v1553 : BitVec 32 := Scalar.addi c0_i32_1077 v1552
  v1553.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v140 : Index := Scalar.indexCast v2
  let c0_73 : Index := 0#32
  let c0_74 : Index := 0#32
  ![v140.toNat, 0, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v143 : BitVec 32 := Scalar.muli v2 c128_i32
  let v144 : Index := Scalar.indexCast v143
  let c0_75 : Index := 0#32
  ![v144.toNat, 0]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_82 : BitVec 32 := 128#32
  let v157 : BitVec 32 := Scalar.muli v2 c128_i32_82
  let c0_i32_86 : BitVec 32 := 0#32
  ![v157.toNat, 0]
def k0_off5 (d0 : Dev nD) (c1_i32_76 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v146 : BitVec 32 := Scalar.addi v2 c1_i32_76
  let c32_i32_77 : BitVec 32 := 32#32
  let c0_i32 : BitVec 32 := 0#32
  let v147 : BitVec 1 := Scalar.cmpi .eq c32_i32_77 c0_i32
  let c1_i32_78 : BitVec 32 := 1#32
  let v148 : BitVec 32 := Scalar.select v147 c1_i32_78 c32_i32_77
  let v149 : BitVec 32 := Scalar.remsi v146 v148
  let c0_i32_80 : BitVec 32 := 0#32
  let v151 : BitVec 1 := Scalar.cmpi .slt v149 c0_i32_80
  let c0_i32_81 : BitVec 32 := 0#32
  let v152 : BitVec 1 := Scalar.cmpi .slt v148 c0_i32_81
  let v153 : BitVec 1 := Scalar.xori v151 v152
  let c0_i32_79 : BitVec 32 := 0#32
  let v150 : BitVec 1 := Scalar.cmpi .ne v149 c0_i32_79
  let v154 : BitVec 1 := Scalar.andi v153 v150
  let v155 : BitVec 32 := Scalar.addi v149 v148
  let v156 : BitVec 32 := Scalar.select v154 v155 v149
  let c0_i32_87 : BitVec 32 := 0#32
  let c0_i32_88 : BitVec 32 := 0#32
  ![v156.toNat, 0, 0]
def k0_dev2 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_76 : BitVec 32 := 1#32
  let v146 : BitVec 32 := Scalar.addi v2 c1_i32_76
  let c32_i32_77 : BitVec 32 := 32#32
  let c0_i32 : BitVec 32 := 0#32
  let v147 : BitVec 1 := Scalar.cmpi .eq c32_i32_77 c0_i32
  let c1_i32_78 : BitVec 32 := 1#32
  let v148 : BitVec 32 := Scalar.select v147 c1_i32_78 c32_i32_77
  let v149 : BitVec 32 := Scalar.remsi v146 v148
  let c0_i32_80 : BitVec 32 := 0#32
  let v151 : BitVec 1 := Scalar.cmpi .slt v149 c0_i32_80
  let c0_i32_81 : BitVec 32 := 0#32
  let v152 : BitVec 1 := Scalar.cmpi .slt v148 c0_i32_81
  let v153 : BitVec 1 := Scalar.xori v151 v152
  let c0_i32_79 : BitVec 32 := 0#32
  let v150 : BitVec 1 := Scalar.cmpi .ne v149 c0_i32_79
  let v154 : BitVec 1 := Scalar.andi v153 v150
  let v155 : BitVec 32 := Scalar.addi v149 v148
  let v156 : BitVec 32 := Scalar.select v154 v155 v149
  let c1_i32_84 : BitVec 32 := 1#32
  let v158 : BitVec 32 := Scalar.muli v156 c1_i32_84
  let v159 : BitVec 32 := Scalar.addi c0_i32_85 v158
  v159.toNat
def k0_dev3 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v167 : BitVec 32 := Scalar.addi v2 c2_i32
  let c32_i32_89 : BitVec 32 := 32#32
  let c0_i32_90 : BitVec 32 := 0#32
  let v168 : BitVec 1 := Scalar.cmpi .eq c32_i32_89 c0_i32_90
  let c1_i32_91 : BitVec 32 := 1#32
  let v169 : BitVec 32 := Scalar.select v168 c1_i32_91 c32_i32_89
  let v170 : BitVec 32 := Scalar.remsi v167 v169
  let c0_i32_93 : BitVec 32 := 0#32
  let v172 : BitVec 1 := Scalar.cmpi .slt v170 c0_i32_93
  let c0_i32_94 : BitVec 32 := 0#32
  let v173 : BitVec 1 := Scalar.cmpi .slt v169 c0_i32_94
  let v174 : BitVec 1 := Scalar.xori v172 v173
  let c0_i32_92 : BitVec 32 := 0#32
  let v171 : BitVec 1 := Scalar.cmpi .ne v170 c0_i32_92
  let v175 : BitVec 1 := Scalar.andi v174 v171
  let v176 : BitVec 32 := Scalar.addi v170 v169
  let v177 : BitVec 32 := Scalar.select v175 v176 v170
  let c1_i32_97 : BitVec 32 := 1#32
  let v179 : BitVec 32 := Scalar.muli v177 c1_i32_97
  let v180 : BitVec 32 := Scalar.addi c0_i32_98 v179
  v180.toNat
def k0_dev4 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v188 : BitVec 32 := Scalar.addi v2 c3_i32
  let c32_i32_102 : BitVec 32 := 32#32
  let c0_i32_103 : BitVec 32 := 0#32
  let v189 : BitVec 1 := Scalar.cmpi .eq c32_i32_102 c0_i32_103
  let c1_i32_104 : BitVec 32 := 1#32
  let v190 : BitVec 32 := Scalar.select v189 c1_i32_104 c32_i32_102
  let v191 : BitVec 32 := Scalar.remsi v188 v190
  let c0_i32_106 : BitVec 32 := 0#32
  let v193 : BitVec 1 := Scalar.cmpi .slt v191 c0_i32_106
  let c0_i32_107 : BitVec 32 := 0#32
  let v194 : BitVec 1 := Scalar.cmpi .slt v190 c0_i32_107
  let v195 : BitVec 1 := Scalar.xori v193 v194
  let c0_i32_105 : BitVec 32 := 0#32
  let v192 : BitVec 1 := Scalar.cmpi .ne v191 c0_i32_105
  let v196 : BitVec 1 := Scalar.andi v195 v192
  let v197 : BitVec 32 := Scalar.addi v191 v190
  let v198 : BitVec 32 := Scalar.select v196 v197 v191
  let c1_i32_110 : BitVec 32 := 1#32
  let v200 : BitVec 32 := Scalar.muli v198 c1_i32_110
  let v201 : BitVec 32 := Scalar.addi c0_i32_111 v200
  v201.toNat
def k0_dev5 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v209 : BitVec 32 := Scalar.addi v2 c4_i32
  let c32_i32_115 : BitVec 32 := 32#32
  let c0_i32_116 : BitVec 32 := 0#32
  let v210 : BitVec 1 := Scalar.cmpi .eq c32_i32_115 c0_i32_116
  let c1_i32_117 : BitVec 32 := 1#32
  let v211 : BitVec 32 := Scalar.select v210 c1_i32_117 c32_i32_115
  let v212 : BitVec 32 := Scalar.remsi v209 v211
  let c0_i32_119 : BitVec 32 := 0#32
  let v214 : BitVec 1 := Scalar.cmpi .slt v212 c0_i32_119
  let c0_i32_120 : BitVec 32 := 0#32
  let v215 : BitVec 1 := Scalar.cmpi .slt v211 c0_i32_120
  let v216 : BitVec 1 := Scalar.xori v214 v215
  let c0_i32_118 : BitVec 32 := 0#32
  let v213 : BitVec 1 := Scalar.cmpi .ne v212 c0_i32_118
  let v217 : BitVec 1 := Scalar.andi v216 v213
  let v218 : BitVec 32 := Scalar.addi v212 v211
  let v219 : BitVec 32 := Scalar.select v217 v218 v212
  let c1_i32_123 : BitVec 32 := 1#32
  let v221 : BitVec 32 := Scalar.muli v219 c1_i32_123
  let v222 : BitVec 32 := Scalar.addi c0_i32_124 v221
  v222.toNat
def k0_dev6 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v230 : BitVec 32 := Scalar.addi v2 c5_i32
  let c32_i32_128 : BitVec 32 := 32#32
  let c0_i32_129 : BitVec 32 := 0#32
  let v231 : BitVec 1 := Scalar.cmpi .eq c32_i32_128 c0_i32_129
  let c1_i32_130 : BitVec 32 := 1#32
  let v232 : BitVec 32 := Scalar.select v231 c1_i32_130 c32_i32_128
  let v233 : BitVec 32 := Scalar.remsi v230 v232
  let c0_i32_132 : BitVec 32 := 0#32
  let v235 : BitVec 1 := Scalar.cmpi .slt v233 c0_i32_132
  let c0_i32_133 : BitVec 32 := 0#32
  let v236 : BitVec 1 := Scalar.cmpi .slt v232 c0_i32_133
  let v237 : BitVec 1 := Scalar.xori v235 v236
  let c0_i32_131 : BitVec 32 := 0#32
  let v234 : BitVec 1 := Scalar.cmpi .ne v233 c0_i32_131
  let v238 : BitVec 1 := Scalar.andi v237 v234
  let v239 : BitVec 32 := Scalar.addi v233 v232
  let v240 : BitVec 32 := Scalar.select v238 v239 v233
  let c1_i32_136 : BitVec 32 := 1#32
  let v242 : BitVec 32 := Scalar.muli v240 c1_i32_136
  let v243 : BitVec 32 := Scalar.addi c0_i32_137 v242
  v243.toNat
def k0_dev7 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v251 : BitVec 32 := Scalar.addi v2 c6_i32
  let c32_i32_141 : BitVec 32 := 32#32
  let c0_i32_142 : BitVec 32 := 0#32
  let v252 : BitVec 1 := Scalar.cmpi .eq c32_i32_141 c0_i32_142
  let c1_i32_143 : BitVec 32 := 1#32
  let v253 : BitVec 32 := Scalar.select v252 c1_i32_143 c32_i32_141
  let v254 : BitVec 32 := Scalar.remsi v251 v253
  let c0_i32_145 : BitVec 32 := 0#32
  let v256 : BitVec 1 := Scalar.cmpi .slt v254 c0_i32_145
  let c0_i32_146 : BitVec 32 := 0#32
  let v257 : BitVec 1 := Scalar.cmpi .slt v253 c0_i32_146
  let v258 : BitVec 1 := Scalar.xori v256 v257
  let c0_i32_144 : BitVec 32 := 0#32
  let v255 : BitVec 1 := Scalar.cmpi .ne v254 c0_i32_144
  let v259 : BitVec 1 := Scalar.andi v258 v255
  let v260 : BitVec 32 := Scalar.addi v254 v253
  let v261 : BitVec 32 := Scalar.select v259 v260 v254
  let c1_i32_149 : BitVec 32 := 1#32
  let v263 : BitVec 32 := Scalar.muli v261 c1_i32_149
  let v264 : BitVec 32 := Scalar.addi c0_i32_150 v263
  v264.toNat
def k0_dev8 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v272 : BitVec 32 := Scalar.addi v2 c7_i32
  let c32_i32_154 : BitVec 32 := 32#32
  let c0_i32_155 : BitVec 32 := 0#32
  let v273 : BitVec 1 := Scalar.cmpi .eq c32_i32_154 c0_i32_155
  let c1_i32_156 : BitVec 32 := 1#32
  let v274 : BitVec 32 := Scalar.select v273 c1_i32_156 c32_i32_154
  let v275 : BitVec 32 := Scalar.remsi v272 v274
  let c0_i32_158 : BitVec 32 := 0#32
  let v277 : BitVec 1 := Scalar.cmpi .slt v275 c0_i32_158
  let c0_i32_159 : BitVec 32 := 0#32
  let v278 : BitVec 1 := Scalar.cmpi .slt v274 c0_i32_159
  let v279 : BitVec 1 := Scalar.xori v277 v278
  let c0_i32_157 : BitVec 32 := 0#32
  let v276 : BitVec 1 := Scalar.cmpi .ne v275 c0_i32_157
  let v280 : BitVec 1 := Scalar.andi v279 v276
  let v281 : BitVec 32 := Scalar.addi v275 v274
  let v282 : BitVec 32 := Scalar.select v280 v281 v275
  let c1_i32_162 : BitVec 32 := 1#32
  let v284 : BitVec 32 := Scalar.muli v282 c1_i32_162
  let v285 : BitVec 32 := Scalar.addi c0_i32_163 v284
  v285.toNat
def k0_dev9 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v293 : BitVec 32 := Scalar.addi v2 c8_i32
  let c32_i32_167 : BitVec 32 := 32#32
  let c0_i32_168 : BitVec 32 := 0#32
  let v294 : BitVec 1 := Scalar.cmpi .eq c32_i32_167 c0_i32_168
  let c1_i32_169 : BitVec 32 := 1#32
  let v295 : BitVec 32 := Scalar.select v294 c1_i32_169 c32_i32_167
  let v296 : BitVec 32 := Scalar.remsi v293 v295
  let c0_i32_171 : BitVec 32 := 0#32
  let v298 : BitVec 1 := Scalar.cmpi .slt v296 c0_i32_171
  let c0_i32_172 : BitVec 32 := 0#32
  let v299 : BitVec 1 := Scalar.cmpi .slt v295 c0_i32_172
  let v300 : BitVec 1 := Scalar.xori v298 v299
  let c0_i32_170 : BitVec 32 := 0#32
  let v297 : BitVec 1 := Scalar.cmpi .ne v296 c0_i32_170
  let v301 : BitVec 1 := Scalar.andi v300 v297
  let v302 : BitVec 32 := Scalar.addi v296 v295
  let v303 : BitVec 32 := Scalar.select v301 v302 v296
  let c1_i32_175 : BitVec 32 := 1#32
  let v305 : BitVec 32 := Scalar.muli v303 c1_i32_175
  let v306 : BitVec 32 := Scalar.addi c0_i32_176 v305
  v306.toNat
def k0_dev10 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v314 : BitVec 32 := Scalar.addi v2 c9_i32
  let c32_i32_180 : BitVec 32 := 32#32
  let c0_i32_181 : BitVec 32 := 0#32
  let v315 : BitVec 1 := Scalar.cmpi .eq c32_i32_180 c0_i32_181
  let c1_i32_182 : BitVec 32 := 1#32
  let v316 : BitVec 32 := Scalar.select v315 c1_i32_182 c32_i32_180
  let v317 : BitVec 32 := Scalar.remsi v314 v316
  let c0_i32_184 : BitVec 32 := 0#32
  let v319 : BitVec 1 := Scalar.cmpi .slt v317 c0_i32_184
  let c0_i32_185 : BitVec 32 := 0#32
  let v320 : BitVec 1 := Scalar.cmpi .slt v316 c0_i32_185
  let v321 : BitVec 1 := Scalar.xori v319 v320
  let c0_i32_183 : BitVec 32 := 0#32
  let v318 : BitVec 1 := Scalar.cmpi .ne v317 c0_i32_183
  let v322 : BitVec 1 := Scalar.andi v321 v318
  let v323 : BitVec 32 := Scalar.addi v317 v316
  let v324 : BitVec 32 := Scalar.select v322 v323 v317
  let c1_i32_188 : BitVec 32 := 1#32
  let v326 : BitVec 32 := Scalar.muli v324 c1_i32_188
  let v327 : BitVec 32 := Scalar.addi c0_i32_189 v326
  v327.toNat
def k0_dev11 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v335 : BitVec 32 := Scalar.addi v2 c10_i32
  let c32_i32_193 : BitVec 32 := 32#32
  let c0_i32_194 : BitVec 32 := 0#32
  let v336 : BitVec 1 := Scalar.cmpi .eq c32_i32_193 c0_i32_194
  let c1_i32_195 : BitVec 32 := 1#32
  let v337 : BitVec 32 := Scalar.select v336 c1_i32_195 c32_i32_193
  let v338 : BitVec 32 := Scalar.remsi v335 v337
  let c0_i32_197 : BitVec 32 := 0#32
  let v340 : BitVec 1 := Scalar.cmpi .slt v338 c0_i32_197
  let c0_i32_198 : BitVec 32 := 0#32
  let v341 : BitVec 1 := Scalar.cmpi .slt v337 c0_i32_198
  let v342 : BitVec 1 := Scalar.xori v340 v341
  let c0_i32_196 : BitVec 32 := 0#32
  let v339 : BitVec 1 := Scalar.cmpi .ne v338 c0_i32_196
  let v343 : BitVec 1 := Scalar.andi v342 v339
  let v344 : BitVec 32 := Scalar.addi v338 v337
  let v345 : BitVec 32 := Scalar.select v343 v344 v338
  let c1_i32_201 : BitVec 32 := 1#32
  let v347 : BitVec 32 := Scalar.muli v345 c1_i32_201
  let v348 : BitVec 32 := Scalar.addi c0_i32_202 v347
  v348.toNat
def k0_dev12 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v356 : BitVec 32 := Scalar.addi v2 c11_i32
  let c32_i32_206 : BitVec 32 := 32#32
  let c0_i32_207 : BitVec 32 := 0#32
  let v357 : BitVec 1 := Scalar.cmpi .eq c32_i32_206 c0_i32_207
  let c1_i32_208 : BitVec 32 := 1#32
  let v358 : BitVec 32 := Scalar.select v357 c1_i32_208 c32_i32_206
  let v359 : BitVec 32 := Scalar.remsi v356 v358
  let c0_i32_210 : BitVec 32 := 0#32
  let v361 : BitVec 1 := Scalar.cmpi .slt v359 c0_i32_210
  let c0_i32_211 : BitVec 32 := 0#32
  let v362 : BitVec 1 := Scalar.cmpi .slt v358 c0_i32_211
  let v363 : BitVec 1 := Scalar.xori v361 v362
  let c0_i32_209 : BitVec 32 := 0#32
  let v360 : BitVec 1 := Scalar.cmpi .ne v359 c0_i32_209
  let v364 : BitVec 1 := Scalar.andi v363 v360
  let v365 : BitVec 32 := Scalar.addi v359 v358
  let v366 : BitVec 32 := Scalar.select v364 v365 v359
  let c1_i32_214 : BitVec 32 := 1#32
  let v368 : BitVec 32 := Scalar.muli v366 c1_i32_214
  let v369 : BitVec 32 := Scalar.addi c0_i32_215 v368
  v369.toNat
def k0_dev13 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v377 : BitVec 32 := Scalar.addi v2 c12_i32
  let c32_i32_219 : BitVec 32 := 32#32
  let c0_i32_220 : BitVec 32 := 0#32
  let v378 : BitVec 1 := Scalar.cmpi .eq c32_i32_219 c0_i32_220
  let c1_i32_221 : BitVec 32 := 1#32
  let v379 : BitVec 32 := Scalar.select v378 c1_i32_221 c32_i32_219
  let v380 : BitVec 32 := Scalar.remsi v377 v379
  let c0_i32_223 : BitVec 32 := 0#32
  let v382 : BitVec 1 := Scalar.cmpi .slt v380 c0_i32_223
  let c0_i32_224 : BitVec 32 := 0#32
  let v383 : BitVec 1 := Scalar.cmpi .slt v379 c0_i32_224
  let v384 : BitVec 1 := Scalar.xori v382 v383
  let c0_i32_222 : BitVec 32 := 0#32
  let v381 : BitVec 1 := Scalar.cmpi .ne v380 c0_i32_222
  let v385 : BitVec 1 := Scalar.andi v384 v381
  let v386 : BitVec 32 := Scalar.addi v380 v379
  let v387 : BitVec 32 := Scalar.select v385 v386 v380
  let c1_i32_227 : BitVec 32 := 1#32
  let v389 : BitVec 32 := Scalar.muli v387 c1_i32_227
  let v390 : BitVec 32 := Scalar.addi c0_i32_228 v389
  v390.toNat
def k0_dev14 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v398 : BitVec 32 := Scalar.addi v2 c13_i32
  let c32_i32_232 : BitVec 32 := 32#32
  let c0_i32_233 : BitVec 32 := 0#32
  let v399 : BitVec 1 := Scalar.cmpi .eq c32_i32_232 c0_i32_233
  let c1_i32_234 : BitVec 32 := 1#32
  let v400 : BitVec 32 := Scalar.select v399 c1_i32_234 c32_i32_232
  let v401 : BitVec 32 := Scalar.remsi v398 v400
  let c0_i32_236 : BitVec 32 := 0#32
  let v403 : BitVec 1 := Scalar.cmpi .slt v401 c0_i32_236
  let c0_i32_237 : BitVec 32 := 0#32
  let v404 : BitVec 1 := Scalar.cmpi .slt v400 c0_i32_237
  let v405 : BitVec 1 := Scalar.xori v403 v404
  let c0_i32_235 : BitVec 32 := 0#32
  let v402 : BitVec 1 := Scalar.cmpi .ne v401 c0_i32_235
  let v406 : BitVec 1 := Scalar.andi v405 v402
  let v407 : BitVec 32 := Scalar.addi v401 v400
  let v408 : BitVec 32 := Scalar.select v406 v407 v401
  let c1_i32_240 : BitVec 32 := 1#32
  let v410 : BitVec 32 := Scalar.muli v408 c1_i32_240
  let v411 : BitVec 32 := Scalar.addi c0_i32_241 v410
  v411.toNat
def k0_dev15 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v419 : BitVec 32 := Scalar.addi v2 c14_i32
  let c32_i32_245 : BitVec 32 := 32#32
  let c0_i32_246 : BitVec 32 := 0#32
  let v420 : BitVec 1 := Scalar.cmpi .eq c32_i32_245 c0_i32_246
  let c1_i32_247 : BitVec 32 := 1#32
  let v421 : BitVec 32 := Scalar.select v420 c1_i32_247 c32_i32_245
  let v422 : BitVec 32 := Scalar.remsi v419 v421
  let c0_i32_249 : BitVec 32 := 0#32
  let v424 : BitVec 1 := Scalar.cmpi .slt v422 c0_i32_249
  let c0_i32_250 : BitVec 32 := 0#32
  let v425 : BitVec 1 := Scalar.cmpi .slt v421 c0_i32_250
  let v426 : BitVec 1 := Scalar.xori v424 v425
  let c0_i32_248 : BitVec 32 := 0#32
  let v423 : BitVec 1 := Scalar.cmpi .ne v422 c0_i32_248
  let v427 : BitVec 1 := Scalar.andi v426 v423
  let v428 : BitVec 32 := Scalar.addi v422 v421
  let v429 : BitVec 32 := Scalar.select v427 v428 v422
  let c1_i32_253 : BitVec 32 := 1#32
  let v431 : BitVec 32 := Scalar.muli v429 c1_i32_253
  let v432 : BitVec 32 := Scalar.addi c0_i32_254 v431
  v432.toNat
def k0_dev16 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v440 : BitVec 32 := Scalar.addi v2 c15_i32
  let c32_i32_258 : BitVec 32 := 32#32
  let c0_i32_259 : BitVec 32 := 0#32
  let v441 : BitVec 1 := Scalar.cmpi .eq c32_i32_258 c0_i32_259
  let c1_i32_260 : BitVec 32 := 1#32
  let v442 : BitVec 32 := Scalar.select v441 c1_i32_260 c32_i32_258
  let v443 : BitVec 32 := Scalar.remsi v440 v442
  let c0_i32_262 : BitVec 32 := 0#32
  let v445 : BitVec 1 := Scalar.cmpi .slt v443 c0_i32_262
  let c0_i32_263 : BitVec 32 := 0#32
  let v446 : BitVec 1 := Scalar.cmpi .slt v442 c0_i32_263
  let v447 : BitVec 1 := Scalar.xori v445 v446
  let c0_i32_261 : BitVec 32 := 0#32
  let v444 : BitVec 1 := Scalar.cmpi .ne v443 c0_i32_261
  let v448 : BitVec 1 := Scalar.andi v447 v444
  let v449 : BitVec 32 := Scalar.addi v443 v442
  let v450 : BitVec 32 := Scalar.select v448 v449 v443
  let c1_i32_266 : BitVec 32 := 1#32
  let v452 : BitVec 32 := Scalar.muli v450 c1_i32_266
  let v453 : BitVec 32 := Scalar.addi c0_i32_267 v452
  v453.toNat
def k0_dev17 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v461 : BitVec 32 := Scalar.addi v2 c16_i32
  let c32_i32_271 : BitVec 32 := 32#32
  let c0_i32_272 : BitVec 32 := 0#32
  let v462 : BitVec 1 := Scalar.cmpi .eq c32_i32_271 c0_i32_272
  let c1_i32_273 : BitVec 32 := 1#32
  let v463 : BitVec 32 := Scalar.select v462 c1_i32_273 c32_i32_271
  let v464 : BitVec 32 := Scalar.remsi v461 v463
  let c0_i32_275 : BitVec 32 := 0#32
  let v466 : BitVec 1 := Scalar.cmpi .slt v464 c0_i32_275
  let c0_i32_276 : BitVec 32 := 0#32
  let v467 : BitVec 1 := Scalar.cmpi .slt v463 c0_i32_276
  let v468 : BitVec 1 := Scalar.xori v466 v467
  let c0_i32_274 : BitVec 32 := 0#32
  let v465 : BitVec 1 := Scalar.cmpi .ne v464 c0_i32_274
  let v469 : BitVec 1 := Scalar.andi v468 v465
  let v470 : BitVec 32 := Scalar.addi v464 v463
  let v471 : BitVec 32 := Scalar.select v469 v470 v464
  let c1_i32_279 : BitVec 32 := 1#32
  let v473 : BitVec 32 := Scalar.muli v471 c1_i32_279
  let v474 : BitVec 32 := Scalar.addi c0_i32_280 v473
  v474.toNat
def k0_dev18 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v482 : BitVec 32 := Scalar.addi v2 c17_i32
  let c32_i32_284 : BitVec 32 := 32#32
  let c0_i32_285 : BitVec 32 := 0#32
  let v483 : BitVec 1 := Scalar.cmpi .eq c32_i32_284 c0_i32_285
  let c1_i32_286 : BitVec 32 := 1#32
  let v484 : BitVec 32 := Scalar.select v483 c1_i32_286 c32_i32_284
  let v485 : BitVec 32 := Scalar.remsi v482 v484
  let c0_i32_288 : BitVec 32 := 0#32
  let v487 : BitVec 1 := Scalar.cmpi .slt v485 c0_i32_288
  let c0_i32_289 : BitVec 32 := 0#32
  let v488 : BitVec 1 := Scalar.cmpi .slt v484 c0_i32_289
  let v489 : BitVec 1 := Scalar.xori v487 v488
  let c0_i32_287 : BitVec 32 := 0#32
  let v486 : BitVec 1 := Scalar.cmpi .ne v485 c0_i32_287
  let v490 : BitVec 1 := Scalar.andi v489 v486
  let v491 : BitVec 32 := Scalar.addi v485 v484
  let v492 : BitVec 32 := Scalar.select v490 v491 v485
  let c1_i32_292 : BitVec 32 := 1#32
  let v494 : BitVec 32 := Scalar.muli v492 c1_i32_292
  let v495 : BitVec 32 := Scalar.addi c0_i32_293 v494
  v495.toNat
def k0_dev19 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v503 : BitVec 32 := Scalar.addi v2 c18_i32
  let c32_i32_297 : BitVec 32 := 32#32
  let c0_i32_298 : BitVec 32 := 0#32
  let v504 : BitVec 1 := Scalar.cmpi .eq c32_i32_297 c0_i32_298
  let c1_i32_299 : BitVec 32 := 1#32
  let v505 : BitVec 32 := Scalar.select v504 c1_i32_299 c32_i32_297
  let v506 : BitVec 32 := Scalar.remsi v503 v505
  let c0_i32_301 : BitVec 32 := 0#32
  let v508 : BitVec 1 := Scalar.cmpi .slt v506 c0_i32_301
  let c0_i32_302 : BitVec 32 := 0#32
  let v509 : BitVec 1 := Scalar.cmpi .slt v505 c0_i32_302
  let v510 : BitVec 1 := Scalar.xori v508 v509
  let c0_i32_300 : BitVec 32 := 0#32
  let v507 : BitVec 1 := Scalar.cmpi .ne v506 c0_i32_300
  let v511 : BitVec 1 := Scalar.andi v510 v507
  let v512 : BitVec 32 := Scalar.addi v506 v505
  let v513 : BitVec 32 := Scalar.select v511 v512 v506
  let c1_i32_305 : BitVec 32 := 1#32
  let v515 : BitVec 32 := Scalar.muli v513 c1_i32_305
  let v516 : BitVec 32 := Scalar.addi c0_i32_306 v515
  v516.toNat
def k0_dev20 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v524 : BitVec 32 := Scalar.addi v2 c19_i32
  let c32_i32_310 : BitVec 32 := 32#32
  let c0_i32_311 : BitVec 32 := 0#32
  let v525 : BitVec 1 := Scalar.cmpi .eq c32_i32_310 c0_i32_311
  let c1_i32_312 : BitVec 32 := 1#32
  let v526 : BitVec 32 := Scalar.select v525 c1_i32_312 c32_i32_310
  let v527 : BitVec 32 := Scalar.remsi v524 v526
  let c0_i32_314 : BitVec 32 := 0#32
  let v529 : BitVec 1 := Scalar.cmpi .slt v527 c0_i32_314
  let c0_i32_315 : BitVec 32 := 0#32
  let v530 : BitVec 1 := Scalar.cmpi .slt v526 c0_i32_315
  let v531 : BitVec 1 := Scalar.xori v529 v530
  let c0_i32_313 : BitVec 32 := 0#32
  let v528 : BitVec 1 := Scalar.cmpi .ne v527 c0_i32_313
  let v532 : BitVec 1 := Scalar.andi v531 v528
  let v533 : BitVec 32 := Scalar.addi v527 v526
  let v534 : BitVec 32 := Scalar.select v532 v533 v527
  let c1_i32_318 : BitVec 32 := 1#32
  let v536 : BitVec 32 := Scalar.muli v534 c1_i32_318
  let v537 : BitVec 32 := Scalar.addi c0_i32_319 v536
  v537.toNat
def k0_dev21 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v545 : BitVec 32 := Scalar.addi v2 c20_i32
  let c32_i32_323 : BitVec 32 := 32#32
  let c0_i32_324 : BitVec 32 := 0#32
  let v546 : BitVec 1 := Scalar.cmpi .eq c32_i32_323 c0_i32_324
  let c1_i32_325 : BitVec 32 := 1#32
  let v547 : BitVec 32 := Scalar.select v546 c1_i32_325 c32_i32_323
  let v548 : BitVec 32 := Scalar.remsi v545 v547
  let c0_i32_327 : BitVec 32 := 0#32
  let v550 : BitVec 1 := Scalar.cmpi .slt v548 c0_i32_327
  let c0_i32_328 : BitVec 32 := 0#32
  let v551 : BitVec 1 := Scalar.cmpi .slt v547 c0_i32_328
  let v552 : BitVec 1 := Scalar.xori v550 v551
  let c0_i32_326 : BitVec 32 := 0#32
  let v549 : BitVec 1 := Scalar.cmpi .ne v548 c0_i32_326
  let v553 : BitVec 1 := Scalar.andi v552 v549
  let v554 : BitVec 32 := Scalar.addi v548 v547
  let v555 : BitVec 32 := Scalar.select v553 v554 v548
  let c1_i32_331 : BitVec 32 := 1#32
  let v557 : BitVec 32 := Scalar.muli v555 c1_i32_331
  let v558 : BitVec 32 := Scalar.addi c0_i32_332 v557
  v558.toNat
def k0_dev22 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v566 : BitVec 32 := Scalar.addi v2 c21_i32
  let c32_i32_336 : BitVec 32 := 32#32
  let c0_i32_337 : BitVec 32 := 0#32
  let v567 : BitVec 1 := Scalar.cmpi .eq c32_i32_336 c0_i32_337
  let c1_i32_338 : BitVec 32 := 1#32
  let v568 : BitVec 32 := Scalar.select v567 c1_i32_338 c32_i32_336
  let v569 : BitVec 32 := Scalar.remsi v566 v568
  let c0_i32_340 : BitVec 32 := 0#32
  let v571 : BitVec 1 := Scalar.cmpi .slt v569 c0_i32_340
  let c0_i32_341 : BitVec 32 := 0#32
  let v572 : BitVec 1 := Scalar.cmpi .slt v568 c0_i32_341
  let v573 : BitVec 1 := Scalar.xori v571 v572
  let c0_i32_339 : BitVec 32 := 0#32
  let v570 : BitVec 1 := Scalar.cmpi .ne v569 c0_i32_339
  let v574 : BitVec 1 := Scalar.andi v573 v570
  let v575 : BitVec 32 := Scalar.addi v569 v568
  let v576 : BitVec 32 := Scalar.select v574 v575 v569
  let c1_i32_344 : BitVec 32 := 1#32
  let v578 : BitVec 32 := Scalar.muli v576 c1_i32_344
  let v579 : BitVec 32 := Scalar.addi c0_i32_345 v578
  v579.toNat
def k0_dev23 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v587 : BitVec 32 := Scalar.addi v2 c22_i32
  let c32_i32_349 : BitVec 32 := 32#32
  let c0_i32_350 : BitVec 32 := 0#32
  let v588 : BitVec 1 := Scalar.cmpi .eq c32_i32_349 c0_i32_350
  let c1_i32_351 : BitVec 32 := 1#32
  let v589 : BitVec 32 := Scalar.select v588 c1_i32_351 c32_i32_349
  let v590 : BitVec 32 := Scalar.remsi v587 v589
  let c0_i32_353 : BitVec 32 := 0#32
  let v592 : BitVec 1 := Scalar.cmpi .slt v590 c0_i32_353
  let c0_i32_354 : BitVec 32 := 0#32
  let v593 : BitVec 1 := Scalar.cmpi .slt v589 c0_i32_354
  let v594 : BitVec 1 := Scalar.xori v592 v593
  let c0_i32_352 : BitVec 32 := 0#32
  let v591 : BitVec 1 := Scalar.cmpi .ne v590 c0_i32_352
  let v595 : BitVec 1 := Scalar.andi v594 v591
  let v596 : BitVec 32 := Scalar.addi v590 v589
  let v597 : BitVec 32 := Scalar.select v595 v596 v590
  let c1_i32_357 : BitVec 32 := 1#32
  let v599 : BitVec 32 := Scalar.muli v597 c1_i32_357
  let v600 : BitVec 32 := Scalar.addi c0_i32_358 v599
  v600.toNat
def k0_dev24 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v608 : BitVec 32 := Scalar.addi v2 c23_i32
  let c32_i32_362 : BitVec 32 := 32#32
  let c0_i32_363 : BitVec 32 := 0#32
  let v609 : BitVec 1 := Scalar.cmpi .eq c32_i32_362 c0_i32_363
  let c1_i32_364 : BitVec 32 := 1#32
  let v610 : BitVec 32 := Scalar.select v609 c1_i32_364 c32_i32_362
  let v611 : BitVec 32 := Scalar.remsi v608 v610
  let c0_i32_366 : BitVec 32 := 0#32
  let v613 : BitVec 1 := Scalar.cmpi .slt v611 c0_i32_366
  let c0_i32_367 : BitVec 32 := 0#32
  let v614 : BitVec 1 := Scalar.cmpi .slt v610 c0_i32_367
  let v615 : BitVec 1 := Scalar.xori v613 v614
  let c0_i32_365 : BitVec 32 := 0#32
  let v612 : BitVec 1 := Scalar.cmpi .ne v611 c0_i32_365
  let v616 : BitVec 1 := Scalar.andi v615 v612
  let v617 : BitVec 32 := Scalar.addi v611 v610
  let v618 : BitVec 32 := Scalar.select v616 v617 v611
  let c1_i32_370 : BitVec 32 := 1#32
  let v620 : BitVec 32 := Scalar.muli v618 c1_i32_370
  let v621 : BitVec 32 := Scalar.addi c0_i32_371 v620
  v621.toNat
def k0_dev25 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v629 : BitVec 32 := Scalar.addi v2 c24_i32
  let c32_i32_375 : BitVec 32 := 32#32
  let c0_i32_376 : BitVec 32 := 0#32
  let v630 : BitVec 1 := Scalar.cmpi .eq c32_i32_375 c0_i32_376
  let c1_i32_377 : BitVec 32 := 1#32
  let v631 : BitVec 32 := Scalar.select v630 c1_i32_377 c32_i32_375
  let v632 : BitVec 32 := Scalar.remsi v629 v631
  let c0_i32_379 : BitVec 32 := 0#32
  let v634 : BitVec 1 := Scalar.cmpi .slt v632 c0_i32_379
  let c0_i32_380 : BitVec 32 := 0#32
  let v635 : BitVec 1 := Scalar.cmpi .slt v631 c0_i32_380
  let v636 : BitVec 1 := Scalar.xori v634 v635
  let c0_i32_378 : BitVec 32 := 0#32
  let v633 : BitVec 1 := Scalar.cmpi .ne v632 c0_i32_378
  let v637 : BitVec 1 := Scalar.andi v636 v633
  let v638 : BitVec 32 := Scalar.addi v632 v631
  let v639 : BitVec 32 := Scalar.select v637 v638 v632
  let c1_i32_383 : BitVec 32 := 1#32
  let v641 : BitVec 32 := Scalar.muli v639 c1_i32_383
  let v642 : BitVec 32 := Scalar.addi c0_i32_384 v641
  v642.toNat
def k0_dev26 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v650 : BitVec 32 := Scalar.addi v2 c25_i32
  let c32_i32_388 : BitVec 32 := 32#32
  let c0_i32_389 : BitVec 32 := 0#32
  let v651 : BitVec 1 := Scalar.cmpi .eq c32_i32_388 c0_i32_389
  let c1_i32_390 : BitVec 32 := 1#32
  let v652 : BitVec 32 := Scalar.select v651 c1_i32_390 c32_i32_388
  let v653 : BitVec 32 := Scalar.remsi v650 v652
  let c0_i32_392 : BitVec 32 := 0#32
  let v655 : BitVec 1 := Scalar.cmpi .slt v653 c0_i32_392
  let c0_i32_393 : BitVec 32 := 0#32
  let v656 : BitVec 1 := Scalar.cmpi .slt v652 c0_i32_393
  let v657 : BitVec 1 := Scalar.xori v655 v656
  let c0_i32_391 : BitVec 32 := 0#32
  let v654 : BitVec 1 := Scalar.cmpi .ne v653 c0_i32_391
  let v658 : BitVec 1 := Scalar.andi v657 v654
  let v659 : BitVec 32 := Scalar.addi v653 v652
  let v660 : BitVec 32 := Scalar.select v658 v659 v653
  let c1_i32_396 : BitVec 32 := 1#32
  let v662 : BitVec 32 := Scalar.muli v660 c1_i32_396
  let v663 : BitVec 32 := Scalar.addi c0_i32_397 v662
  v663.toNat
def k0_dev27 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v671 : BitVec 32 := Scalar.addi v2 c26_i32
  let c32_i32_401 : BitVec 32 := 32#32
  let c0_i32_402 : BitVec 32 := 0#32
  let v672 : BitVec 1 := Scalar.cmpi .eq c32_i32_401 c0_i32_402
  let c1_i32_403 : BitVec 32 := 1#32
  let v673 : BitVec 32 := Scalar.select v672 c1_i32_403 c32_i32_401
  let v674 : BitVec 32 := Scalar.remsi v671 v673
  let c0_i32_405 : BitVec 32 := 0#32
  let v676 : BitVec 1 := Scalar.cmpi .slt v674 c0_i32_405
  let c0_i32_406 : BitVec 32 := 0#32
  let v677 : BitVec 1 := Scalar.cmpi .slt v673 c0_i32_406
  let v678 : BitVec 1 := Scalar.xori v676 v677
  let c0_i32_404 : BitVec 32 := 0#32
  let v675 : BitVec 1 := Scalar.cmpi .ne v674 c0_i32_404
  let v679 : BitVec 1 := Scalar.andi v678 v675
  let v680 : BitVec 32 := Scalar.addi v674 v673
  let v681 : BitVec 32 := Scalar.select v679 v680 v674
  let c1_i32_409 : BitVec 32 := 1#32
  let v683 : BitVec 32 := Scalar.muli v681 c1_i32_409
  let v684 : BitVec 32 := Scalar.addi c0_i32_410 v683
  v684.toNat
def k0_dev28 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v692 : BitVec 32 := Scalar.addi v2 c27_i32
  let c32_i32_414 : BitVec 32 := 32#32
  let c0_i32_415 : BitVec 32 := 0#32
  let v693 : BitVec 1 := Scalar.cmpi .eq c32_i32_414 c0_i32_415
  let c1_i32_416 : BitVec 32 := 1#32
  let v694 : BitVec 32 := Scalar.select v693 c1_i32_416 c32_i32_414
  let v695 : BitVec 32 := Scalar.remsi v692 v694
  let c0_i32_418 : BitVec 32 := 0#32
  let v697 : BitVec 1 := Scalar.cmpi .slt v695 c0_i32_418
  let c0_i32_419 : BitVec 32 := 0#32
  let v698 : BitVec 1 := Scalar.cmpi .slt v694 c0_i32_419
  let v699 : BitVec 1 := Scalar.xori v697 v698
  let c0_i32_417 : BitVec 32 := 0#32
  let v696 : BitVec 1 := Scalar.cmpi .ne v695 c0_i32_417
  let v700 : BitVec 1 := Scalar.andi v699 v696
  let v701 : BitVec 32 := Scalar.addi v695 v694
  let v702 : BitVec 32 := Scalar.select v700 v701 v695
  let c1_i32_422 : BitVec 32 := 1#32
  let v704 : BitVec 32 := Scalar.muli v702 c1_i32_422
  let v705 : BitVec 32 := Scalar.addi c0_i32_423 v704
  v705.toNat
def k0_dev29 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v713 : BitVec 32 := Scalar.addi v2 c28_i32
  let c32_i32_427 : BitVec 32 := 32#32
  let c0_i32_428 : BitVec 32 := 0#32
  let v714 : BitVec 1 := Scalar.cmpi .eq c32_i32_427 c0_i32_428
  let c1_i32_429 : BitVec 32 := 1#32
  let v715 : BitVec 32 := Scalar.select v714 c1_i32_429 c32_i32_427
  let v716 : BitVec 32 := Scalar.remsi v713 v715
  let c0_i32_431 : BitVec 32 := 0#32
  let v718 : BitVec 1 := Scalar.cmpi .slt v716 c0_i32_431
  let c0_i32_432 : BitVec 32 := 0#32
  let v719 : BitVec 1 := Scalar.cmpi .slt v715 c0_i32_432
  let v720 : BitVec 1 := Scalar.xori v718 v719
  let c0_i32_430 : BitVec 32 := 0#32
  let v717 : BitVec 1 := Scalar.cmpi .ne v716 c0_i32_430
  let v721 : BitVec 1 := Scalar.andi v720 v717
  let v722 : BitVec 32 := Scalar.addi v716 v715
  let v723 : BitVec 32 := Scalar.select v721 v722 v716
  let c1_i32_435 : BitVec 32 := 1#32
  let v725 : BitVec 32 := Scalar.muli v723 c1_i32_435
  let v726 : BitVec 32 := Scalar.addi c0_i32_436 v725
  v726.toNat
def k0_dev30 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v734 : BitVec 32 := Scalar.addi v2 c29_i32
  let c32_i32_440 : BitVec 32 := 32#32
  let c0_i32_441 : BitVec 32 := 0#32
  let v735 : BitVec 1 := Scalar.cmpi .eq c32_i32_440 c0_i32_441
  let c1_i32_442 : BitVec 32 := 1#32
  let v736 : BitVec 32 := Scalar.select v735 c1_i32_442 c32_i32_440
  let v737 : BitVec 32 := Scalar.remsi v734 v736
  let c0_i32_444 : BitVec 32 := 0#32
  let v739 : BitVec 1 := Scalar.cmpi .slt v737 c0_i32_444
  let c0_i32_445 : BitVec 32 := 0#32
  let v740 : BitVec 1 := Scalar.cmpi .slt v736 c0_i32_445
  let v741 : BitVec 1 := Scalar.xori v739 v740
  let c0_i32_443 : BitVec 32 := 0#32
  let v738 : BitVec 1 := Scalar.cmpi .ne v737 c0_i32_443
  let v742 : BitVec 1 := Scalar.andi v741 v738
  let v743 : BitVec 32 := Scalar.addi v737 v736
  let v744 : BitVec 32 := Scalar.select v742 v743 v737
  let c1_i32_448 : BitVec 32 := 1#32
  let v746 : BitVec 32 := Scalar.muli v744 c1_i32_448
  let v747 : BitVec 32 := Scalar.addi c0_i32_449 v746
  v747.toNat
def k0_dev31 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v755 : BitVec 32 := Scalar.addi v2 c30_i32
  let c32_i32_453 : BitVec 32 := 32#32
  let c0_i32_454 : BitVec 32 := 0#32
  let v756 : BitVec 1 := Scalar.cmpi .eq c32_i32_453 c0_i32_454
  let c1_i32_455 : BitVec 32 := 1#32
  let v757 : BitVec 32 := Scalar.select v756 c1_i32_455 c32_i32_453
  let v758 : BitVec 32 := Scalar.remsi v755 v757
  let c0_i32_457 : BitVec 32 := 0#32
  let v760 : BitVec 1 := Scalar.cmpi .slt v758 c0_i32_457
  let c0_i32_458 : BitVec 32 := 0#32
  let v761 : BitVec 1 := Scalar.cmpi .slt v757 c0_i32_458
  let v762 : BitVec 1 := Scalar.xori v760 v761
  let c0_i32_456 : BitVec 32 := 0#32
  let v759 : BitVec 1 := Scalar.cmpi .ne v758 c0_i32_456
  let v763 : BitVec 1 := Scalar.andi v762 v759
  let v764 : BitVec 32 := Scalar.addi v758 v757
  let v765 : BitVec 32 := Scalar.select v763 v764 v758
  let c1_i32_461 : BitVec 32 := 1#32
  let v767 : BitVec 32 := Scalar.muli v765 c1_i32_461
  let v768 : BitVec 32 := Scalar.addi c0_i32_462 v767
  v768.toNat
def k0_dev32 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_466 : BitVec 32 := 31#32
  let v776 : BitVec 32 := Scalar.addi v2 c31_i32_466
  let c32_i32_467 : BitVec 32 := 32#32
  let c0_i32_468 : BitVec 32 := 0#32
  let v777 : BitVec 1 := Scalar.cmpi .eq c32_i32_467 c0_i32_468
  let c1_i32_469 : BitVec 32 := 1#32
  let v778 : BitVec 32 := Scalar.select v777 c1_i32_469 c32_i32_467
  let v779 : BitVec 32 := Scalar.remsi v776 v778
  let c0_i32_471 : BitVec 32 := 0#32
  let v781 : BitVec 1 := Scalar.cmpi .slt v779 c0_i32_471
  let c0_i32_472 : BitVec 32 := 0#32
  let v782 : BitVec 1 := Scalar.cmpi .slt v778 c0_i32_472
  let v783 : BitVec 1 := Scalar.xori v781 v782
  let c0_i32_470 : BitVec 32 := 0#32
  let v780 : BitVec 1 := Scalar.cmpi .ne v779 c0_i32_470
  let v784 : BitVec 1 := Scalar.andi v783 v780
  let v785 : BitVec 32 := Scalar.addi v779 v778
  let v786 : BitVec 32 := Scalar.select v784 v785 v779
  let c1_i32_475 : BitVec 32 := 1#32
  let v788 : BitVec 32 := Scalar.muli v786 c1_i32_475
  let v789 : BitVec 32 := Scalar.addi c0_i32_476 v788
  v789.toNat
def k0_off6 (d0 : Dev nD) (c1_i32_635 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v952 : BitVec 32 := Scalar.subi v2 c1_i32_635
  let c32_i32_636 : BitVec 32 := 32#32
  let c0_i32_637 : BitVec 32 := 0#32
  let v953 : BitVec 1 := Scalar.cmpi .eq c32_i32_636 c0_i32_637
  let c1_i32_638 : BitVec 32 := 1#32
  let v954 : BitVec 32 := Scalar.select v953 c1_i32_638 c32_i32_636
  let v955 : BitVec 32 := Scalar.remsi v952 v954
  let c0_i32_640 : BitVec 32 := 0#32
  let v957 : BitVec 1 := Scalar.cmpi .slt v955 c0_i32_640
  let c0_i32_641 : BitVec 32 := 0#32
  let v958 : BitVec 1 := Scalar.cmpi .slt v954 c0_i32_641
  let v959 : BitVec 1 := Scalar.xori v957 v958
  let c0_i32_639 : BitVec 32 := 0#32
  let v956 : BitVec 1 := Scalar.cmpi .ne v955 c0_i32_639
  let v960 : BitVec 1 := Scalar.andi v959 v956
  let v961 : BitVec 32 := Scalar.addi v955 v954
  let v962 : BitVec 32 := Scalar.select v960 v961 v955
  ![v962.toNat]
def k0_off7 (d0 : Dev nD) (c1_i32_635 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v952 : BitVec 32 := Scalar.subi v2 c1_i32_635
  let c32_i32_636 : BitVec 32 := 32#32
  let c0_i32_637 : BitVec 32 := 0#32
  let v953 : BitVec 1 := Scalar.cmpi .eq c32_i32_636 c0_i32_637
  let c1_i32_638 : BitVec 32 := 1#32
  let v954 : BitVec 32 := Scalar.select v953 c1_i32_638 c32_i32_636
  let v955 : BitVec 32 := Scalar.remsi v952 v954
  let c0_i32_640 : BitVec 32 := 0#32
  let v957 : BitVec 1 := Scalar.cmpi .slt v955 c0_i32_640
  let c0_i32_641 : BitVec 32 := 0#32
  let v958 : BitVec 1 := Scalar.cmpi .slt v954 c0_i32_641
  let v959 : BitVec 1 := Scalar.xori v957 v958
  let c0_i32_639 : BitVec 32 := 0#32
  let v956 : BitVec 1 := Scalar.cmpi .ne v955 c0_i32_639
  let v960 : BitVec 1 := Scalar.andi v959 v956
  let v961 : BitVec 32 := Scalar.addi v955 v954
  let v962 : BitVec 32 := Scalar.select v960 v961 v955
  let c128_i32_642 : BitVec 32 := 128#32
  let v963 : BitVec 32 := Scalar.muli v962 c128_i32_642
  let c0_i32_646 : BitVec 32 := 0#32
  ![v963.toNat, 0]
def k0_off8 (d0 : Dev nD) (c1_i32_635 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v952 : BitVec 32 := Scalar.subi v2 c1_i32_635
  let c32_i32_636 : BitVec 32 := 32#32
  let c0_i32_637 : BitVec 32 := 0#32
  let v953 : BitVec 1 := Scalar.cmpi .eq c32_i32_636 c0_i32_637
  let c1_i32_638 : BitVec 32 := 1#32
  let v954 : BitVec 32 := Scalar.select v953 c1_i32_638 c32_i32_636
  let v955 : BitVec 32 := Scalar.remsi v952 v954
  let c0_i32_640 : BitVec 32 := 0#32
  let v957 : BitVec 1 := Scalar.cmpi .slt v955 c0_i32_640
  let c0_i32_641 : BitVec 32 := 0#32
  let v958 : BitVec 1 := Scalar.cmpi .slt v954 c0_i32_641
  let v959 : BitVec 1 := Scalar.xori v957 v958
  let c0_i32_639 : BitVec 32 := 0#32
  let v956 : BitVec 1 := Scalar.cmpi .ne v955 c0_i32_639
  let v960 : BitVec 1 := Scalar.andi v959 v956
  let v961 : BitVec 32 := Scalar.addi v955 v954
  let v962 : BitVec 32 := Scalar.select v960 v961 v955
  let c0_i32_647 : BitVec 32 := 0#32
  let c0_i32_648 : BitVec 32 := 0#32
  ![v962.toNat, 0, 0]
abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.KernelIdeal.Words.lean ====
/- The words of the kernel in closed form: the peer devices it names, and the offsets of the slices it takes, as
   functions of the device's own number and the step of the exchange. -/
module

public import proofs.«01_k».proof.Proof.Gen.KernelIdeal

@[expose] public section

noncomputable section

namespace Cert.KernelIdeal.Exchange

open Cert.KernelIdeal Cert.KernelIdeal.Gen
open Idealize.ShloMosaic
open Idealize.ShloMosaic.TcCoe

/-- The device `k` places after `c`, around the ring of 32: the target of step `k`. -/
def tgt (c : Dev nD) (k : Fin 32) : Dev nD := ⟨(c.val + k.val) % 32, Nat.mod_lt _ (by decide)⟩
/-- The device `k` places before `c`: the source of what arrives in step `k`; also the step at which `k` is
    reached from `c`. -/
def src (c : Dev nD) (k : Fin 32) : Dev nD := ⟨(c.val + 32 - k.val) % 32, Nat.mod_lt _ (by decide)⟩

theorem src_tgt (c k : Fin 32) : src (tgt c k) k = c := by
  apply Fin.ext; have := c.isLt; have := k.isLt; simp only [src, tgt]; omega
theorem tgt_src (c k : Fin 32) : tgt (src c k) k = c := by
  apply Fin.ext; have := c.isLt; have := k.isLt; simp only [src, tgt]; omega
theorem tgt_back (c d : Fin 32) : tgt c (src d c) = d := by
  apply Fin.ext; have := c.isLt; have := d.isLt; simp only [src, tgt]; omega
theorem back_tgt (c k : Fin 32) : src (tgt c k) c = k := by
  apply Fin.ext; have := c.isLt; have := k.isLt; simp only [src, tgt]; omega
theorem src_src (c d : Fin 32) : src c (src c d) = d := by
  apply Fin.ext; have := c.isLt; have := d.isLt; simp only [src]; omega
theorem tgt_zero (c : Fin 32) : tgt c 0 = c := by
  apply Fin.ext; have := c.isLt; simp only [tgt, Fin.val_zero]; omega
theorem src_zero (c : Fin 32) : src c 0 = c := by
  apply Fin.ext; have := c.isLt; simp only [src, Fin.val_zero]; omega

/-- The devices, reordered by distance after `c`. -/
def tgtEquiv (c : Fin 32) : Fin 32 ≃ Fin 32 := ⟨tgt c, fun d => src d c, back_tgt c, tgt_back c⟩
/-- The devices, reordered by distance before `c`. -/
def srcEquiv (c : Fin 32) : Fin 32 ≃ Fin 32 := ⟨src c, src c, src_src c, src_src c⟩
/-- The rotation of the devices by `k` places. -/
def rot (k : Fin 32) : Fin 32 ≃ Fin 32 := ⟨fun c => tgt c k, fun c => src c k, fun c => src_tgt c k, fun c => tgt_src c k⟩

theorem tgt_eq_self {c k : Fin 32} : tgt c k = c ↔ k = 0 := by
  constructor
  · intro h; rw [← back_tgt c k, h]; apply Fin.ext; have := c.isLt; simp only [src, Fin.val_zero]; omega
  · rintro rfl; exact tgt_zero c
theorem src_eq_self {c k : Fin 32} : src c k = c ↔ k = 0 := by
  constructor
  · intro h; rw [← src_src c k, h]; apply Fin.ext; have := c.isLt; simp only [src, Fin.val_zero]; omega
  · rintro rfl; exact src_zero c

/-! ## The peers -/

theorem trips_eq : k0_t1_loop.trips = 31 := by decide +kernel
/-- The device signalled by trip `t` of the entry loop. -/
theorem dev1_eq : ∀ (c : Dev nD) (t : Fin k0_t1_loop.trips), k0_dev1 c t = (c.val + (t.val + 1)) % 32 := by decide +kernel
theorem dev2_eq : ∀ c : Dev nD, (⟨k0_dev2 c, k0_dev2_lt c⟩ : Dev nD) = tgt c 1 := by decide +kernel
theorem dev3_eq : ∀ c : Dev nD, (⟨k0_dev3 c, k0_dev3_lt c⟩ : Dev nD) = tgt c 2 := by decide +kernel
theorem dev4_eq : ∀ c : Dev nD, (⟨k0_dev4 c, k0_dev4_lt c⟩ : Dev nD) = tgt c 3 := by decide +kernel
theorem dev5_eq : ∀ c : Dev nD, (⟨k0_dev5 c, k0_dev5_lt c⟩ : Dev nD) = tgt c 4 := by decide +kernel
theorem dev6_eq : ∀ c : Dev nD, (⟨k0_dev6 c, k0_dev6_lt c⟩ : Dev nD) = tgt c 5 := by decide +kernel
theorem dev7_eq : ∀ c : Dev nD, (⟨k0_dev7 c, k0_dev7_lt c⟩ : Dev nD) = tgt c 6 := by decide +kernel
theorem dev8_eq : ∀ c : Dev nD, (⟨k0_dev8 c, k0_dev8_lt c⟩ : Dev nD) = tgt c 7 := by decide +kernel
theorem dev9_eq : ∀ c : Dev nD, (⟨k0_dev9 c, k0_dev9_lt c⟩ : Dev nD) = tgt c 8 := by decide +kernel
theorem dev10_eq : ∀ c : Dev nD, (⟨k0_dev10 c, k0_dev10_lt c⟩ : Dev nD) = tgt c 9 := by decide +kernel
theorem dev11_eq : ∀ c : Dev nD, (⟨k0_dev11 c, k0_dev11_lt c⟩ : Dev nD) = tgt c 10 := by decide +kernel
theorem dev12_eq : ∀ c : Dev nD, (⟨k0_dev12 c, k0_dev12_lt c⟩ : Dev nD) = tgt c 11 := by decide +kernel
theorem dev13_eq : ∀ c : Dev nD, (⟨k0_dev13 c, k0_dev13_lt c⟩ : Dev nD) = tgt c 12 := by decide +kernel
theorem dev14_eq : ∀ c : Dev nD, (⟨k0_dev14 c, k0_dev14_lt c⟩ : Dev nD) = tgt c 13 := by decide +kernel
theorem dev15_eq : ∀ c : Dev nD, (⟨k0_dev15 c, k0_dev15_lt c⟩ : Dev nD) = tgt c 14 := by decide +kernel
theorem dev16_eq : ∀ c : Dev nD, (⟨k0_dev16 c, k0_dev16_lt c⟩ : Dev nD) = tgt c 15 := by decide +kernel
theorem dev17_eq : ∀ c : Dev nD, (⟨k0_dev17 c, k0_dev17_lt c⟩ : Dev nD) = tgt c 16 := by decide +kernel
theorem dev18_eq : ∀ c : Dev nD, (⟨k0_dev18 c, k0_dev18_lt c⟩ : Dev nD) = tgt c 17 := by decide +kernel
theorem dev19_eq : ∀ c : Dev nD, (⟨k0_dev19 c, k0_dev19_lt c⟩ : Dev nD) = tgt c 18 := by decide +kernel
theorem dev20_eq : ∀ c : Dev nD, (⟨k0_dev20 c, k0_dev20_lt c⟩ : Dev nD) = tgt c 19 := by decide +kernel
theorem dev21_eq : ∀ c : Dev nD, (⟨k0_dev21 c, k0_dev21_lt c⟩ : Dev nD) = tgt c 20 := by decide +kernel
theorem dev22_eq : ∀ c : Dev nD, (⟨k0_dev22 c, k0_dev22_lt c⟩ : Dev nD) = tgt c 21 := by decide +kernel
theorem dev23_eq : ∀ c : Dev nD, (⟨k0_dev23 c, k0_dev23_lt c⟩ : Dev nD) = tgt c 22 := by decide +kernel
theorem dev24_eq : ∀ c : Dev nD, (⟨k0_dev24 c, k0_dev24_lt c⟩ : Dev nD) = tgt c 23 := by decide +kernel
theorem dev25_eq : ∀ c : Dev nD, (⟨k0_dev25 c, k0_dev25_lt c⟩ : Dev nD) = tgt c 24 := by decide +kernel
theorem dev26_eq : ∀ c : Dev nD, (⟨k0_dev26 c, k0_dev26_lt c⟩ : Dev nD) = tgt c 25 := by decide +kernel
theorem dev27_eq : ∀ c : Dev nD, (⟨k0_dev27 c, k0_dev27_lt c⟩ : Dev nD) = tgt c 26 := by decide +kernel
theorem dev28_eq : ∀ c : Dev nD, (⟨k0_dev28 c, k0_dev28_lt c⟩ : Dev nD) = tgt c 27 := by decide +kernel
theorem dev29_eq : ∀ c : Dev nD, (⟨k0_dev29 c, k0_dev29_lt c⟩ : Dev nD) = tgt c 28 := by decide +kernel
theorem dev30_eq : ∀ c : Dev nD, (⟨k0_dev30 c, k0_dev30_lt c⟩ : Dev nD) = tgt c 29 := by decide +kernel
theorem dev31_eq : ∀ c : Dev nD, (⟨k0_dev31 c, k0_dev31_lt c⟩ : Dev nD) = tgt c 30 := by decide +kernel
theorem dev32_eq : ∀ c : Dev nD, (⟨k0_dev32 c, k0_dev32_lt c⟩ : Dev nD) = tgt c 31 := by decide +kernel

/-! ## The offsets -/

theorem off1_eq : ∀ c : Dev nD, k0_off1 c = ![c.val, 0, 0] := by decide +kernel
theorem off2_eq : ∀ c : Dev nD, k0_off2 c = ![128 * c.val, 0] := by decide +kernel
theorem off3_eq : ∀ c : Dev nD, k0_off3 c = ![c.val] := by decide +kernel
theorem off4_eq : ∀ c : Dev nD, k0_off4 c = ![128 * c.val, 0] := by decide +kernel
theorem off5_eq : ∀ c k : Fin 32, k0_off5 c (BitVec.ofNat 32 k.val) = ![(tgt c k).val, 0, 0] := by decide +kernel
theorem off6_eq : ∀ c k : Fin 32, k0_off6 c (BitVec.ofNat 32 k.val) = ![(src c k).val] := by decide +kernel
theorem off7_eq : ∀ c k : Fin 32, k0_off7 c (BitVec.ofNat 32 k.val) = ![128 * (src c k).val, 0] := by decide +kernel
theorem off8_eq : ∀ c k : Fin 32, k0_off8 c (BitVec.ofNat 32 k.val) = ![(src c k).val, 0, 0] := by decide +kernel

end Cert.KernelIdeal.Exchange
-- ==== Proof.KernelIdeal.Views.lean ====
/- The two buffers of the exchange, cut in blocks: the scratch by its leading coordinate (one block per target), the result
   by its rows (one block of 128 rows per source). The slices the kernel takes are these blocks, and the transfer of
   a block of the scratch to a block of the result moves one global content onto another. -/
module

public import proofs.«01_k».proof.Proof.KernelIdeal.Words
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Tactic

@[expose] public section

noncomputable section

namespace Cert.KernelIdeal.Exchange

open Cert.KernelIdeal Cert.KernelIdeal.Gen
open Idealize.ShloMosaic Idealize.ShloMosaic.ValueIdx
open Idealize.ShloMosaic.TcCoe

variable {F : FTy → Type} [FloatOps F]

abbrev xM : Memref sig .tc .vmem S128x4096 .bf16 := Memref.whole cc0_stg0_0
abbrev wM : Memref sig .tc .vmem S4096x2048 .bf16 := Memref.whole cc0_stg1_0
abbrev oM : Memref sig .tc .vmem S4096x64 .f32 := Memref.whole cc0_stg2_0
abbrev aM : Memref sig .tc .vmem S32x128x64 .f32 := Memref.whole cc0_scratch0

/-- The block of the result at the given offsets. -/
abbrev oSl (off : Fin 2 → Nat) (h : ∀ a, off a + S128x64.size a ≤ S4096x64.size a) : Memref sig .tc .vmem S128x64 .f32 :=
  oM.slice (Rect.unit off S128x64.size h) (fun _ => rfl)
/-- The block of the scratch at the given offsets, its unit axis dropped. -/
abbrev aSl (off : Fin 3 → Nat) (h : ∀ a, off a + S1x128x64.size a ≤ S32x128x64.size a) : Memref sig .tc .vmem S128x64 .f32 :=
  (aM.slice (Rect.unit off S1x128x64.size h) (fun _ => rfl)).squeeze S128x64 squeezes_S1x128x64_S128x64

/-- Rows `128 s` to `128 s + 127` of the result. -/
def outRows (s : Fin 32) : Finset S4096x64.Idx := Finset.univ.filter fun i => (i 0).val / 128 = s.val
/-- Block `j` of the scratch. -/
def accRows (j : Fin 32) : Finset S32x128x64.Idx := Finset.univ.filter fun i => (i 0).val = j.val

theorem mem_outRows {s : Fin 32} {i : S4096x64.Idx} : i ∈ outRows s ↔ (i 0).val / 128 = s.val := by simp [outRows]
theorem mem_accRows {j : Fin 32} {i : S32x128x64.Idx} : i ∈ accRows j ↔ (i 0).val = j.val := by simp [accRows]

theorem outRows_disjoint : ∀ s ∈ (Finset.univ : Finset (Fin 32)), ∀ t ∈ (Finset.univ : Finset (Fin 32)), s ≠ t → Disjoint (outRows s) (outRows t) := by
  intro s _ t _ hst
  rw [Finset.disjoint_left]
  intro i hi hj
  exact hst (Fin.ext ((mem_outRows.mp hi).symm.trans (mem_outRows.mp hj)))
theorem accRows_disjoint : ∀ s ∈ (Finset.univ : Finset (Fin 32)), ∀ t ∈ (Finset.univ : Finset (Fin 32)), s ≠ t → Disjoint (accRows s) (accRows t) := by
  intro s _ t _ hst
  rw [Finset.disjoint_left]
  intro i hi hj
  exact hst (Fin.ext ((mem_accRows.mp hi).symm.trans (mem_accRows.mp hj)))
theorem outRows_cover : Finset.univ.biUnion outRows = (Finset.univ : Finset S4096x64.Idx) := by
  ext i
  simp only [Finset.mem_biUnion, Finset.mem_univ, true_and, iff_true]
  have h : (i 0).val < 4096 := (i 0).isLt
  exact ⟨⟨(i 0).val / 128, by omega⟩, mem_outRows.mpr rfl⟩
theorem accRows_cover : Finset.univ.biUnion accRows = (Finset.univ : Finset S32x128x64.Idx) := by
  ext i
  simp only [Finset.mem_biUnion, Finset.mem_univ, true_and, iff_true]
  exact ⟨⟨(i 0).val, (i 0).isLt⟩, mem_accRows.mpr rfl⟩

/-! ## The slices' elements -/

theorem rect_out (s : Fin 32) (off : Fin 2 → Nat) (ho : off = ![128 * s.val, 0]) (h) :
    (Rect.unit (s := S4096x64) off S128x64.size h).set = outRows s := by
  subst ho
  ext i
  rw [Rect.mem_set_unit, mem_outRows]
  have h0 : (i 0).val < 4096 := (i 0).isLt
  have h1 : (i 1).val < 64 := (i 1).isLt
  constructor
  · intro hh
    have h2 := hh 0
    have e1 : (![128 * s.val, 0] : Fin 2 → Nat) 0 = 128 * s.val := rfl
    have e2 : S128x64.size 0 = 128 := rfl
    rw [e1, e2] at h2
    omega
  · intro hh a
    match a with
    | ⟨0, _⟩ => show 128 * s.val ≤ (i 0).val ∧ (i 0).val < 128 * s.val + 128; omega
    | ⟨1, _⟩ => show 0 ≤ (i 1).val ∧ (i 1).val < 0 + 64; omega

theorem rect_acc (j : Fin 32) (off : Fin 3 → Nat) (ho : off = ![j.val, 0, 0]) (h) :
    (Rect.unit (s := S32x128x64) off S1x128x64.size h).set = accRows j := by
  subst ho
  ext i
  rw [Rect.mem_set_unit, mem_accRows]
  have h1 : (i 1).val < 128 := (i 1).isLt
  have h2 : (i 2).val < 64 := (i 2).isLt
  constructor
  · intro hh
    have h2 := hh 0
    have e1 : (![j.val, 0, 0] : Fin 3 → Nat) 0 = j.val := rfl
    have e2 : S1x128x64.size 0 = 1 := rfl
    rw [e1, e2] at h2
    omega
  · intro hh a
    match a with
    | ⟨0, _⟩ => show j.val ≤ (i 0).val ∧ (i 0).val < j.val + 1; omega
    | ⟨1, _⟩ => show 0 ≤ (i 1).val ∧ (i 1).val < 0 + 128; omega
    | ⟨2, _⟩ => show 0 ≤ (i 2).val ∧ (i 2).val < 0 + 64; omega

theorem oSl_set (s : Fin 32) (off : Fin 2 → Nat) (ho : off = ![128 * s.val, 0]) (h) : (oSl off h).view.set = outRows s := by
  show ((View.whole cc0_stg2_0).slice _).set = _
  rw [View.set_slice_whole]; exact rect_out s off ho h
theorem aSl_set (j : Fin 32) (off : Fin 3 → Nat) (ho : off = ![j.val, 0, 0]) (h) : (aSl off h).view.set = accRows j := by
  show ((((View.whole cc0_scratch0).slice _).reshape _ _)).set = _
  rw [View.set_reshape, View.set_slice_whole]; exact rect_acc j off ho h

/-! ## Where a slice's element lies -/

theorem oSl_emb (off : Fin 2 → Nat) (h) (x : S128x64.Idx) (a : Fin 2) : (((oSl off h).view.emb x) a).val = off a + (x a).val := by
  show off a + 1 * (x a).val = _
  omega
theorem aSl_emb0 (off : Fin 3 → Nat) (h) (x : S128x64.Idx) : (((aSl off h).view.emb x) (0 : Fin 3)).val = off 0 := by
  show off 0 + 1 * ((Shape.reshapeEquiv squeezes_S1x128x64_S128x64.numel_eq x) (0 : Fin 3)).val = _
  have : ((Shape.reshapeEquiv squeezes_S1x128x64_S128x64.numel_eq x) (0 : Fin 3)).val < 1 := ((Shape.reshapeEquiv squeezes_S1x128x64_S128x64.numel_eq x) (0 : Fin 3)).isLt
  omega
theorem aSl_reshape (x : S128x64.Idx) : Shape.reshapeEquiv squeezes_S1x128x64_S128x64.numel_eq x = ix3 (⟨0, Nat.one_pos⟩ : Fin 1) (x 0) (x 1) := by
  rw [show x = ix2 (x 0) (x 1) from eq_ix2 x]
  exact reshapeEquiv_ix2_1ab _ _ _
theorem aSl_emb1 (off : Fin 3 → Nat) (h) (x : S128x64.Idx) : (((aSl off h).view.emb x) (1 : Fin 3)).val = off 1 + (x 0).val := by
  show off 1 + 1 * ((Shape.reshapeEquiv squeezes_S1x128x64_S128x64.numel_eq x) (1 : Fin 3)).val = _
  rw [aSl_reshape, Nat.one_mul]
theorem aSl_emb2 (off : Fin 3 → Nat) (h) (x : S128x64.Idx) : (((aSl off h).view.emb x) (2 : Fin 3)).val = off 2 + (x 1).val := by
  show off 2 + 1 * ((Shape.reshapeEquiv squeezes_S1x128x64_S128x64.numel_eq x) (2 : Fin 3)).val = _
  rw [aSl_reshape, Nat.one_mul]

/-! ## The semaphores -/

/-- The semaphore on which the transfer of step `k` reports that it has read its source. -/
def sendSem (k : Fin 32) : DmaSem sig := ⟨3 + k.val, by have := k.isLt; show 3 + k.val < 67; omega⟩
/-- The semaphore on which the block of source `s` reports that it has landed. -/
def recvSem (s : Fin 32) : DmaSem sig := ⟨35 + s.val, by have := s.isLt; show 35 + s.val < 67; omega⟩

theorem slot_row (off : Fin 1 → Nat) (h : ∀ a, off a + S1.size a ≤ S32.size a) :
    (S32.rowMajor ((Rect.unit (s := S32) off S1.size h).emb (Shape.reshapeEquiv squeezes_S1_S_.numel_eq fun i => i.elim0))).val = off 0 := by
  refine (Shape.rowMajor_val_one _).trans ?_
  show off 0 + 1 * ((Shape.reshapeEquiv squeezes_S1_S_.numel_eq fun i => i.elim0) (0 : Fin 1)).val = _
  have : ((Shape.reshapeEquiv squeezes_S1_S_.numel_eq fun i => i.elim0) (0 : Fin 1)).val < 1 := ((Shape.reshapeEquiv squeezes_S1_S_.numel_eq fun i => i.elim0) (0 : Fin 1)).isLt
  omega

theorem sendSem_eq (k : Fin 32) (off : Fin 1 → Nat) (ho : off = ![k.val]) (h) :
    (((cc0_scratch1 : DmaSems sig S32).slice (Rect.unit (s := S32) off S1.size h)).squeeze S_ squeezes_S1_S_).sem = sendSem k := by
  subst ho
  apply Fin.ext
  show 3 + (S32.rowMajor ((Rect.unit (s := S32) ![k.val] S1.size h).emb (Shape.reshapeEquiv squeezes_S1_S_.numel_eq fun i => i.elim0))).val = 3 + k.val
  rw [slot_row]; rfl
theorem recvSem_eq (s : Fin 32) (off : Fin 1 → Nat) (ho : off = ![s.val]) (h) :
    (((cc0_scratch2 : DmaSems sig S32).slice (Rect.unit (s := S32) off S1.size h)).squeeze S_ squeezes_S1_S_).sem = recvSem s := by
  subst ho
  apply Fin.ext
  show 35 + (S32.rowMajor ((Rect.unit (s := S32) ![s.val] S1.size h).emb (Shape.reshapeEquiv squeezes_S1_S_.numel_eq fun i => i.elim0))).val = 35 + s.val
  rw [slot_row]; rfl

/-- What one transfer's landing adds to its semaphore. -/
def N : ℕ := RefSig.tileCredit S128x64 .f32
theorem N_pos : 0 < N := by decide +kernel

/-! ## The contents -/

variable (m : (ℓ : Loc nD τ sig) → Buf (Elt F) ℓ)

/-- The rows of the left operand that device `c` holds. -/
def xstg (c : Dev nD) : (cc0_stg0_0 : Ref sig .tc).ty.Contents (Elt F) :=
  (win0_0.blk (0 : Fin 1)).view.read (Elt F) (m ((c : Thread nD τ).loc main_arg0))
/-- The right operand as device `c` holds it. -/
def wstg (c : Dev nD) : (cc0_stg1_0 : Ref sig .tc).ty.Contents (Elt F) :=
  (win0_1.blk (0 : Fin 1)).view.read (Elt F) (m ((c : Thread nD τ).loc main_arg1))

/-- What device `c` computes: its rows of the product, clamped at zero. -/
def prod (c : Dev nD) : FVec F S128x2048 .f32 := k0_pay1 (xstg m c) (wstg m c)

/-- The scratch once filled: block `j` is columns `64 j` to `64 j + 63` of what the device computes. -/
def accVal (c : Dev nD) : S32x128x64.Idx → Elt F .f32 := fun i =>
  prod m c (ix2 (i 1) ⟨64 * (i 0).val + (i 2).val, by
    have h0 : (i 0).val < 32 := (i 0).isLt
    have h2 : (i 2).val < 64 := (i 2).isLt
    show _ < 2048; omega⟩)
/-- The result of device `c`: rows `128 s` to `128 s + 127` are columns `64 c` to `64 c + 63` of what `s` computes. -/
def outVal (c : Dev nD) : S4096x64.Idx → Elt F .f32 := fun i =>
  prod m (⟨(i 0).val / 128, by have h0 : (i 0).val < 4096 := (i 0).isLt; show _ < 32; omega⟩ : Dev nD)
    (ix2 ⟨(i 0).val % 128, Nat.mod_lt _ (by decide)⟩ ⟨64 * c.val + (i 1).val, by
      have h0 : c.val < 32 := c.isLt
      have h2 : (i 1).val < 64 := (i 1).isLt
      show _ < 2048; omega⟩)

/-- The landing of block `d` of source `s`'s scratch in rows `s` of `d`'s result. -/
theorem landing (s d : Fin 32) (offo : Fin 2 → Nat) (ho : offo = ![128 * s.val, 0]) (offa : Fin 3 → Nat) (ha : offa = ![d.val, 0, 0]) (hh ha')
    (fd : S4096x64.Idx → Elt F .f32) :
    ∀ i ∈ outRows s, (oSl offo hh).view.write (Elt F) fd ((aSl offa ha').view.read (Elt F) (accVal m s)) Finset.univ i = outVal m d i := by
  subst ho ha
  intro i hi
  rw [← oSl_set s _ rfl hh] at hi
  obtain ⟨x, -, rfl⟩ := Finset.mem_map.mp hi
  rw [View.write_emb_of_mem _ _ (Finset.mem_univ x), View.read_apply]
  have hx0 : (x 0).val < 128 := (x 0).isLt
  have e0 : ((oSl ![128 * s.val, 0] hh).view.emb x 0).val = 128 * s.val + (x 0).val := by rw [oSl_emb]; rfl
  have e1 : ((oSl ![128 * s.val, 0] hh).view.emb x 1).val = (x 1).val := by rw [oSl_emb]; exact Nat.zero_add _
  have f0 : ((aSl ![d.val, 0, 0] ha').view.emb x (0 : Fin 3)).val = d.val := by rw [aSl_emb0]; rfl
  have f1 : ((aSl ![d.val, 0, 0] ha').view.emb x (1 : Fin 3)).val = (x 0).val := by rw [aSl_emb1]; exact Nat.zero_add _
  have f2 : ((aSl ![d.val, 0, 0] ha').view.emb x (2 : Fin 3)).val = (x 1).val := by rw [aSl_emb2]; exact Nat.zero_add _
  unfold accVal outVal
  have hs : (⟨((oSl ![128 * s.val, 0] hh).view.emb x 0).val / 128, by have h0 : ((oSl ![128 * s.val, 0] hh).view.emb x 0).val < 4096 := ((oSl ![128 * s.val, 0] hh).view.emb x 0).isLt; show _ < 32; omega⟩ : Dev nD) = s :=
    Fin.ext (by show ((oSl ![128 * s.val, 0] hh).view.emb x 0).val / 128 = s.val; omega)
  refine Eq.trans ?_ (congrFun (congrArg (prod m) hs.symm) _)
  refine congrArg (prod m s) (funext fun a => Fin.ext ?_)
  match a with
  | ⟨0, _⟩ => show ((aSl ![d.val, 0, 0] ha').view.emb x (1 : Fin 3)).val = ((oSl ![128 * s.val, 0] hh).view.emb x 0).val % 128; omega
  | ⟨1, _⟩ => show 64 * ((aSl ![d.val, 0, 0] ha').view.emb x (0 : Fin 3)).val + ((aSl ![d.val, 0, 0] ha').view.emb x (2 : Fin 3)).val = 64 * d.val + ((oSl ![128 * s.val, 0] hh).view.emb x 1).val; omega

end Cert.KernelIdeal.Exchange
-- ==== Proof.KernelIdeal.Protocol.lean ====
/- The exchange's protocol: which semaphore stands for what, who pays it, what a payment hands over, and what each device
   owes when it starts. A device has one entry cell (the runtime's barrier semaphore), 32 cells for the transfers it
   sends (one per step) and 32 for the blocks it receives (one per source); the step and the source that would be the
   device itself are never used. -/
module

public import proofs.«01_k».proof.Proof.KernelIdeal.Views

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds beside the exchange's, whose duties are named by a `Fin 32` -/

abbrev UX : Type := URounds (GSem nD τ sig) (Fin 32)
abbrev UA : Type := UR sig nD τ × UX

local notation "𝕄" => MT nD τ sig Unit (Elt F) ℕ UA ℕ

abbrev EP : Emb (UR sig nD τ) (MT nD τ sig Unit (Elt F) ℕ UA ℕ) := embL
abbrev EX : Emb UX (MT nD τ sig Unit (Elt F) ℕ UA ℕ) := embR

variable (m : (ℓ : Loc nD τ sig) → Buf (Elt F) ℓ) (ρ : Dev nD → PrngReg)

/-! ## The cells -/

abbrev barS : Sem sig := (SemArray.scalar (sig.barrier 0 rfl) : Sems sig S_).sem
abbrev barCell (c : Dev nD) : GSem nD τ sig := ((c : Thread nD τ), .reg barS)
abbrev sendCell (c : Dev nD) (k : Fin 32) : GSem nD τ sig := ((c : Thread nD τ), .dma (sendSem k))
abbrev recvCell (c : Dev nD) (s : Fin 32) : GSem nD τ sig := ((c : Thread nD τ), .dma (recvSem s))

/-- The kernel's own (scoped) semaphores: by step, and by source. -/
def ownSem : Fin 32 ⊕ Fin 32 → SemLoc sig
  | .inl k => .dma (sendSem k)
  | .inr s => .dma (recvSem s)
/-- With the runtime's barrier: every semaphore the protocol uses. -/
def cellSem : Unit ⊕ (Fin 32 ⊕ Fin 32) → SemLoc sig
  | .inl _ => .reg barS
  | .inr x => ownSem x
def cellAt (p : Dev nD × (Unit ⊕ (Fin 32 ⊕ Fin 32))) : GSem nD τ sig := ((p.1 : Thread nD τ), cellSem p.2)

abbrev entryIx : Unit ⊕ (Fin 32 ⊕ Fin 32) := .inl ()
abbrev sendIx (k : Fin 32) : Unit ⊕ (Fin 32 ⊕ Fin 32) := .inr (.inl k)
abbrev recvIx (s : Fin 32) : Unit ⊕ (Fin 32 ⊕ Fin 32) := .inr (.inr s)

/-! ## What is handed over -/

/-- Block `j` of device `c`'s scratch, holding `f`. -/
def aPts (c : Dev nD) (j : Fin 32) (f : Buf (Elt F) ((c : Thread nD τ).loc cc0_scratch0)) : sProp 𝕄 :=
  ((c : Thread nD τ).loc cc0_scratch0) ↦[accRows j]{fullShare} f
/-- Rows `s` of device `c`'s result, holding `f`. -/
def oPts (c : Dev nD) (s : Fin 32) (f : Buf (Elt F) ((c : Thread nD τ).loc cc0_stg2_0)) : sProp 𝕄 :=
  ((c : Thread nD τ).loc cc0_stg2_0) ↦[outRows s]{fullShare} f

omit [FloatOps F] in
instance aPts_storable (c : Dev nD) (j : Fin 32) (f) : BI.Storable (upEmb : UEmb _ 𝕄) (aPts (F := F) c j f) := by unfold aPts; infer_instance
omit [FloatOps F] in
instance oPts_storable (c : Dev nD) (s : Fin 32) (f) : BI.Storable (upEmb : UEmb _ 𝕄) (oPts (F := F) c s f) := by unfold oPts; infer_instance

/-- What device `d`'s entry signal hands `c`: the rows of `d`'s result that `c` will write. -/
def entryPay (c d : Dev nD) : sProp 𝕄 := iprop(∃ f, oPts (F := F) d c f)

/-! ## The schedule -/

/-- One round. The entry cell of `c` has a duty per other device; the cell of a step other than 0, and of a source other
    than the device itself, has the one duty 0. -/
def sched : Rounds.Schedule (GSem nD τ sig) (Fin 32) 𝕄 where
  duties g r := if r = 0 then (match g.2 with
    | .reg _ => Finset.univ.erase g.1.1
    | .dma q => if q.val < 35 then (if 3 < q.val then {0} else ∅) else (if q.val = 35 + g.1.1.val then ∅ else {0})) else ∅
  unitless _ := False
  amount g _ _ := match g.2 with
    | .reg _ => 1
    | .dma _ => N
  payload g _ d := match g.2 with
    | .reg _ => entryPay g.1.1 d
    | .dma q =>
      if q.val < 35 then aPts g.1.1 (tgt g.1.1 ⟨(q.val - 3) % 32, Nat.mod_lt _ (by decide)⟩) (accVal m g.1.1)
      else oPts g.1.1 ⟨(q.val - 35) % 32, Nat.mod_lt _ (by decide)⟩ (outVal m g.1.1)
  amount_pos g _ _ _ := by
    cases g.2 with
    | reg _ => exact Nat.one_pos
    | dma _ => exact N_pos

instance sched_storable (g : GSem nD τ sig) (r : ℕ) (d : Fin 32) :
    BI.Storable (upEmb : UEmb _ 𝕄) ((sched (F := F) m).payload g r d) := by
  rcases g with ⟨⟨c, p⟩, sm | q⟩
  · show BI.Storable upEmb (entryPay c d)
    unfold entryPay; infer_instance
  · show BI.Storable upEmb (if q.val < 35 then aPts c (tgt c ⟨(q.val - 3) % 32, Nat.mod_lt _ (by decide)⟩) (accVal m c)
      else oPts c ⟨(q.val - 35) % 32, Nat.mod_lt _ (by decide)⟩ (outVal m c))
    split <;> infer_instance

section Sched
variable (c : Dev nD) (k s d : Fin 32)

theorem duties_entry : (sched (F := F) m).duties (barCell c) 0 = Finset.univ.erase c := rfl
theorem duties_send (hk : k ≠ 0) : (sched (F := F) m).duties (sendCell c k) 0 = {0} := by
  have h1 : 3 + k.val < 35 := by have := k.isLt; omega
  have h2 : 3 < 3 + k.val := by have : k.val ≠ 0 := fun h => hk (Fin.ext h); omega
  show (if 3 + k.val < 35 then (if 3 < 3 + k.val then ({0} : Finset (Fin 32)) else ∅) else _) = _
  rw [if_pos h1, if_pos h2]
theorem duties_send0 : (sched (F := F) m).duties (sendCell c 0) 0 = ∅ := rfl
theorem duties_recv (hs : s ≠ c) : (sched (F := F) m).duties (recvCell c s) 0 = {0} := by
  have h1 : ¬ 35 + s.val < 35 := by omega
  have h2 : ¬ 35 + s.val = 35 + c.val := fun h => hs (Fin.ext (by omega))
  show (if 35 + s.val < 35 then _ else (if 35 + s.val = 35 + c.val then (∅ : Finset (Fin 32)) else {0})) = _
  rw [if_neg h1, if_neg h2]
theorem duties_recv_self : (sched (F := F) m).duties (recvCell c c) 0 = ∅ := by
  have h1 : ¬ 35 + c.val < 35 := by omega
  show (if 35 + c.val < 35 then _ else (if 35 + c.val = 35 + c.val then (∅ : Finset (Fin 32)) else {0})) = _
  rw [if_neg h1, if_pos rfl]
theorem duties_later (g : GSem nD τ sig) : ∀ r, 1 ≤ r → (sched (F := F) m).duties g r = ∅ := fun r hr => by
  dsimp only [sched]; exact if_neg (by omega)
theorem duties_send0_all : ∀ r, 0 ≤ r → (sched (F := F) m).duties (sendCell c 0) r = ∅ := fun r _ => by
  rcases Nat.eq_zero_or_pos r with rfl | h
  · exact duties_send0 m c
  · exact duties_later m _ r h
theorem duties_recv_self_all : ∀ r, 0 ≤ r → (sched (F := F) m).duties (recvCell c c) r = ∅ := fun r _ => by
  rcases Nat.eq_zero_or_pos r with rfl | h
  · exact duties_recv_self m c
  · exact duties_later m _ r h

theorem amount_entry : (sched (F := F) m).amount (barCell c) 0 d = 1 := rfl
theorem amount_send : (sched (F := F) m).amount (sendCell c k) 0 d = N := rfl
theorem amount_recv : (sched (F := F) m).amount (recvCell c s) 0 d = N := rfl

theorem expect_entry : (sched (F := F) m).expect (barCell c) 0 = 31 := by
  unfold Schedule.expect Schedule.amountOf
  rw [duties_entry, Finset.sum_congr rfl fun d _ => amount_entry m c d, Finset.sum_const, Finset.card_erase_of_mem (Finset.mem_univ _),
    Finset.card_univ, Fintype.card_fin, smul_eq_mul]
theorem expect_send (hk : k ≠ 0) : (sched (F := F) m).expect (sendCell c k) 0 = N := by
  unfold Schedule.expect Schedule.amountOf; rw [duties_send m c k hk, Finset.sum_singleton, amount_send]
theorem expect_recv (hs : s ≠ c) : (sched (F := F) m).expect (recvCell c s) 0 = N := by
  unfold Schedule.expect Schedule.amountOf; rw [duties_recv m c s hs, Finset.sum_singleton, amount_recv]

theorem payload_entry : (sched (F := F) m).payload (barCell c) 0 d = entryPay c d := rfl
theorem payload_send : (sched (F := F) m).payload (sendCell c k) 0 d = aPts c (tgt c k) (accVal m c) := by
  have h1 : 3 + k.val < 35 := by have := k.isLt; omega
  have h2 : (⟨(3 + k.val - 3) % 32, Nat.mod_lt _ (by decide)⟩ : Fin 32) = k := Fin.ext (by have := k.isLt; show (3 + k.val - 3) % 32 = k.val; omega)
  show (if 3 + k.val < 35 then aPts c (tgt c ⟨(3 + k.val - 3) % 32, Nat.mod_lt _ (by decide)⟩) (accVal m c) else _) = _
  rw [if_pos h1, h2]
theorem payload_recv : (sched (F := F) m).payload (recvCell c s) 0 d = oPts c s (outVal m c) := by
  have h1 : ¬ 35 + s.val < 35 := by omega
  have h2 : (⟨(35 + s.val - 35) % 32, Nat.mod_lt _ (by decide)⟩ : Fin 32) = s := Fin.ext (by have := s.isLt; show (35 + s.val - 35) % 32 = s.val; omega)
  show (if 35 + s.val < 35 then _ else oPts c ⟨(35 + s.val - 35) % 32, Nat.mod_lt _ (by decide)⟩ (outVal m c)) = _
  rw [if_neg h1, h2]

theorem rest_send (hk : k ≠ 0) : bigSep ((sched (F := F) m).duties (sendCell c k) 0 \ ∅) (fun d => (sched (F := F) m).payload (sendCell c k) 0 d)
    = aPts c (tgt c k) (accVal m c) := by
  rw [Finset.sdiff_empty, duties_send m c k hk, bigSep_singleton, payload_send]
theorem rest_recv (hs : s ≠ c) : bigSep ((sched (F := F) m).duties (recvCell c s) 0 \ ∅) (fun d => (sched (F := F) m).payload (recvCell c s) 0 d)
    = oPts c s (outVal m c) := by
  rw [Finset.sdiff_empty, duties_recv m c s hs, bigSep_singleton, payload_recv]

end Sched

/-! ## The steps still to come and those done -/

def Ge (j : ℕ) : Finset (Fin 32) := Finset.univ.filter fun k => j ≤ k.val
def Lt (j : ℕ) : Finset (Fin 32) := Finset.univ.filter fun k => 1 ≤ k.val ∧ k.val < j

theorem mem_Ge {j : ℕ} {k : Fin 32} : k ∈ Ge j ↔ j ≤ k.val := by simp [Ge]
theorem mem_Lt {j : ℕ} {k : Fin 32} : k ∈ Lt j ↔ 1 ≤ k.val ∧ k.val < j := by simp [Lt]
theorem Ge_eq (k : Fin 32) : Ge k.val = insert k (Ge (k.val + 1)) := by
  ext i; rw [Finset.mem_insert, mem_Ge, mem_Ge]
  constructor
  · intro h
    by_cases h' : i = k
    · exact Or.inl h'
    · exact Or.inr (by have : i.val ≠ k.val := fun h => h' (Fin.ext h); omega)
  · rintro (rfl | h) <;> omega
theorem not_mem_Ge (k : Fin 32) : k ∉ Ge (k.val + 1) := by rw [mem_Ge]; omega
theorem Lt_eq (k : Fin 32) (hk : k ≠ 0) : Lt (k.val + 1) = insert k (Lt k.val) := by
  have hk' : k.val ≠ 0 := fun h => hk (Fin.ext h)
  ext i; rw [Finset.mem_insert, mem_Lt, mem_Lt]
  constructor
  · intro h
    by_cases h' : i = k
    · exact Or.inl h'
    · exact Or.inr (by have : i.val ≠ k.val := fun h => h' (Fin.ext h); omega)
  · rintro (rfl | h) <;> omega
theorem not_mem_Lt (k : Fin 32) : k ∉ Lt k.val := by rw [mem_Lt]; omega
theorem Ge_32 : Ge 32 = ∅ := by decide
theorem Lt_1 : Lt 1 = ∅ := by decide
theorem Lt_32 : Lt 32 = Ge 1 := by decide
theorem univ_eq_Ge : (Finset.univ : Finset (Fin 32)) = insert 0 (Ge 1) := by decide
theorem zero_not_mem_Ge : (0 : Fin 32) ∉ Ge 1 := by decide
theorem ne_zero_of_mem {k : Fin 32} (h : k ∈ Ge 1) : k ≠ 0 := by rintro rfl; exact zero_not_mem_Ge h

/-! ## What a device owes, and the levels -/

/-- The receive cells' credit of the steps from `j` on. -/
def recvOwe (c : Dev nD) (j : ℕ) : CellTallies nD τ sig Unit := ∑ k ∈ Ge j, tallyAt (recvCell (tgt c k) c) () N
/-- The entry signals of the steps from `j` on. -/
def entryOwe (c : Dev nD) (j : ℕ) : CellTallies nD τ sig Unit := ∑ k ∈ Ge j, tallyAt (barCell (tgt c k)) () 1
def oweAll (c : Dev nD) : CellTallies nD τ sig Unit := recvOwe c 1 + entryOwe c 1

theorem recvOwe_step (c : Dev nD) (k : Fin 32) : recvOwe c k.val = recvOwe c (k.val + 1) + tallyAt (recvCell (tgt c k) c) () N := by
  unfold recvOwe; rw [Ge_eq k, Finset.sum_insert (not_mem_Ge k), add_comm]
theorem entryOwe_step (c : Dev nD) (k : Fin 32) (R : CellTallies nD τ sig Unit) :
    R + entryOwe c k.val = (R + entryOwe c (k.val + 1)) + tallyAt (barCell (tgt c k)) () 1 := by
  unfold entryOwe; rw [Ge_eq k, Finset.sum_insert (not_mem_Ge k), add_comm (tallyAt _ _ _), add_assoc]
theorem recvOwe_32 (c : Dev nD) : recvOwe c 32 = 0 := by unfold recvOwe; rw [Ge_32, Finset.sum_empty]
theorem entryOwe_32 (c : Dev nD) : entryOwe c 32 = 0 := by unfold entryOwe; rw [Ge_32, Finset.sum_empty]

theorem sum_tally_apply (S : Finset (Fin 32)) (f : Fin 32 → GSem nD τ sig) (n : ℕ) (g : GSem nD τ sig) (u : Unit) :
    (∑ k ∈ S, tallyAt (f k) () n : CellTallies nD τ sig Unit) g u = ∑ k ∈ S, (if f k = g then n else 0) := by
  induction S using Finset.induction_on with
  | empty => rfl
  | @insert a S ha ih =>
    rw [Finset.sum_insert ha, Finset.sum_insert ha, Pi.add_apply, Finsupp.add_apply, ih, tallyAt_apply]
    congr 1
    by_cases h : f a = g
    · rw [if_pos h, if_pos ⟨h.symm, rfl⟩]
    · rw [if_neg h, if_neg fun h' => h h'.1.symm]

theorem recvOwe_pos {c : Dev nD} {j : ℕ} {g : GSem nD τ sig} {u : Unit} (h : 0 < recvOwe c j g u) : ∃ k, g = recvCell (tgt c k) c := by
  by_contra hn
  unfold recvOwe at h
  rw [sum_tally_apply, Finset.sum_eq_zero fun k _ => if_neg fun e => hn ⟨k, e.symm⟩] at h
  exact Nat.lt_irrefl 0 h
theorem entryOwe_pos {c : Dev nD} {j : ℕ} {g : GSem nD τ sig} {u : Unit} (h : 0 < entryOwe c j g u) : ∃ k, g = barCell (tgt c k) := by
  by_contra hn
  unfold entryOwe at h
  rw [sum_tally_apply, Finset.sum_eq_zero fun k _ => if_neg fun e => hn ⟨k, e.symm⟩] at h
  exact Nat.lt_irrefl 0 h
theorem oweAll_pos {c : Dev nD} {g : GSem nD τ sig} {u : Unit} (h : 0 < oweAll c g u) :
    (∃ k, g = recvCell (tgt c k) c) ∨ ∃ k, g = barCell (tgt c k) := by
  unfold oweAll at h
  rw [Pi.add_apply, Finsupp.add_apply] at h
  rcases Nat.eq_zero_or_pos (recvOwe c 1 g u) with h0 | h0
  · rw [h0, Nat.zero_add] at h; exact Or.inr (entryOwe_pos h)
  · exact Or.inl (recvOwe_pos h0)

def levels (g : GSem nD τ sig) : Finset Unit := if g.1.2 = .tc then {()} else ∅
/-- Entry cells at 1, receive cells at 2, the rest at 0. -/
def lev (g : GSem nD τ sig) (_ : Unit) : ℕ := match g.2 with
  | .reg _ => 1
  | .dma q => if q.val < 35 then 0 else 2

theorem levels_of_ne (g : GSem nD τ sig) (h : g.1.2 ≠ .tc) : levels g = ∅ := if_neg h
theorem mem_levels (c : Dev nD) (sm : SemLoc sig) (u : Unit) : u ∈ levels ((c : Thread nD τ), sm) := by
  unfold levels; rw [if_pos rfl]; exact Finset.mem_singleton_self _
theorem lev_recv (c : Dev nD) (s : Fin 32) (u : Unit) : lev (recvCell c s) u = 2 := by
  show (if 35 + s.val < 35 then 0 else 2) = 2
  rw [if_neg (by omega)]

/-- A wait below every entry cell is allowed whatever of its launch dues a device still has. -/
theorem mayWait_low (c : Dev nD) (q : DmaSem sig) (hq : q.val < 35) (O : CellTallies nD τ sig Unit) (hO : O = oweAll c ∨ O = 0) :
    (levAts levels lev : sProp 𝕄) ⊢ MayWait (c : Thread nD τ) (.dma q) () O := by
  rcases hO with rfl | rfl
  · refine MayOwe.of_cut (L := levels) (lev := lev) 0 (fun p hp => by rw [Finset.mem_singleton.mp hp]; exact mem_levels _ _ _)
      (fun g u hg => by
        rcases oweAll_pos hg with ⟨k, rfl⟩ | ⟨k, rfl⟩ <;> exact mem_levels _ _ _)
      (fun p hp => by
        rw [Finset.mem_singleton.mp hp]
        show (if q.val < 35 then 0 else 2) ≤ 0
        rw [if_pos hq])
      (fun g u hg => by
        rcases oweAll_pos hg with ⟨k, rfl⟩ | ⟨k, rfl⟩
        · rw [lev_recv]; decide
        · exact Nat.one_pos)
  · rw [MayWait_zero]; iintro -; iempintro

/-- At its entry wait a device owes receive credit only. -/
theorem mayWait_entry (c : Dev nD) :
    (levAts levels lev : sProp 𝕄) ⊢ MayWait (c : Thread nD τ) (.reg barS) () (recvOwe c 1) :=
  MayOwe.of_cut (L := levels) (lev := lev) 1 (fun p hp => by rw [Finset.mem_singleton.mp hp]; exact mem_levels _ _ _)
    (fun g u hg => by obtain ⟨k, rfl⟩ := recvOwe_pos hg; exact mem_levels _ _ _)
    (fun p hp => by rw [Finset.mem_singleton.mp hp]; exact Nat.le_refl 1)
    (fun g u hg => by obtain ⟨k, rfl⟩ := recvOwe_pos hg; rw [lev_recv]; decide)

/-! ## What every device knows, and what each one holds -/

/-- The invariants of all cells, at the names `K`, and that each cell is at its round. -/
def known (K : Dev nD × (Unit ⊕ (Fin 32 ⊕ Fin 32)) → ℕ) : sProp 𝕄 :=
  iprop((bigSep Finset.univ fun p => cellInv EX (sched m) (K p) (cellAt p)) ∗ bigSep Finset.univ fun p => reached EX (cellAt p) 0)

instance known_persistent (K : Dev nD × (Unit ⊕ (Fin 32 ⊕ Fin 32)) → ℕ) : BI.Persistent (known m K) := by unfold known; infer_instance

theorem known_inv (K : Dev nD × (Unit ⊕ (Fin 32 ⊕ Fin 32)) → ℕ) (p : Dev nD × (Unit ⊕ (Fin 32 ⊕ Fin 32))) :
    known m K ⊢ cellInv EX (sched m) (K p) (cellAt p) := by
  have h : (bigSep Finset.univ fun p => (cellInv EX (sched m) (K p) (cellAt p) : sProp 𝕄)) ⊢ cellInv EX (sched m) (K p) (cellAt p) :=
    bigSep_elim (Finset.mem_univ p)
  unfold known
  iintro ⟨H, -⟩
  iapply h
  iexact H
theorem known_reached (K : Dev nD × (Unit ⊕ (Fin 32 ⊕ Fin 32)) → ℕ) (p : Dev nD × (Unit ⊕ (Fin 32 ⊕ Fin 32))) :
    known m K ⊢ reached EX (cellAt p) 0 := by
  have h : (bigSep Finset.univ fun p => (reached EX (cellAt p) 0 : sProp 𝕄)) ⊢ reached EX (cellAt p) 0 := bigSep_elim (Finset.mem_univ p)
  unfold known
  iintro ⟨-, H⟩
  iapply h
  iexact H

end Cert.KernelIdeal.Exchange
-- ==== Proof.KernelIdeal.Steps.lean ====
/- One step of each phase of the exchange: a transfer is started, its source is known to have been read, a block has landed.
   Each lemma takes a state at step `j` to the state at step `j + 1`. -/
module

public import proofs.«01_k».proof.Proof.KernelIdeal.Protocol

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ)

abbrev 𝒱₀ : Variants := Variants.none

/-- The body's triple on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

abbrev Names : Type := Dev nD × (Unit ⊕ (Fin 32 ⊕ Fin 32)) → ℕ

/-! ## The blocks as the transfers' ends -/

omit [FloatOps F] in
theorem aPts_slice (c : Dev nD) (j : Fin 32) (f : Buf (Elt F) ((c : Thread nD τ).loc cc0_scratch0))
    (off : Fin 3 → Nat) (ha : off = ![j.val, 0, 0]) (h) :
    (aPts c j f : sProp 𝕄) = ((aSl off h).view.loc (c : Thread nD τ) ↦[(aSl off h).view.set]{fullShare} f) := by
  rw [aSl_set j off ha h]; rfl
omit [FloatOps F] in
theorem oPts_slice (c : Dev nD) (s : Fin 32) (f : Buf (Elt F) ((c : Thread nD τ).loc cc0_stg2_0))
    (off : Fin 2 → Nat) (ho : off = ![128 * s.val, 0]) (h) :
    (oPts c s f : sProp 𝕄) = ((oSl off h).view.loc (c : Thread nD τ) ↦[(oSl off h).view.set]{fullShare} f) := by
  rw [oSl_set s off ho h]; rfl

/-! ## The states -/

omit [FloatOps F] in
theorem conj_insert {S : Finset (Fin 32)} {k : Fin 32} (h : k ∉ S) (Φ : Fin 32 → sProp 𝕄) :
    bigSep (insert k S) Φ = iprop(Φ k ∗ bigSep S Φ) := bigSep_insert h

/-- What step `k` needs for its transfer: the block, the rows it goes to, the two duties it pays. -/
def sendTodo (c : Dev nD) (k : Fin 32) : sProp 𝕄 :=
  iprop(aPts c (tgt c k) (accVal m c) ∗ (∃ f, oPts (F := F) (tgt c k) c f) ∗ dutyTok EX (recvCell (tgt c k) c) 0 0 ∗ dutyTok EX (sendCell c k) 0 0)
/-- Transfers up to step `j` started. -/
def Sending (K : Names) (c : Dev nD) (j : ℕ) : sProp 𝕄 :=
  iprop(known m K ∗ (∃ W, owes (c : Thread nD τ) (recvOwe c j) W) ∗ bigSep (Ge j) (sendTodo m c)
    ∗ bigSep (Lt j) fun k => cred (tallyAt (sendCell c k) () N))
/-- The sources of the steps up to `j` read, and those steps' cells closed. -/
def Draining (K : Names) (c : Dev nD) (j : ℕ) : sProp 𝕄 :=
  iprop(known m K ∗ (∃ W, owes (c : Thread nD τ) 0 W)
    ∗ (bigSep (Ge j) fun k => iprop(cred (tallyAt (sendCell c k) () N) ∗ atPos EX (sendCell c k) 0 ∅ 0))
    ∗ bigSep (Lt j) fun k => iprop(aPts c (tgt c k) (accVal m c) ∗ semVal (sendCell c k) 0))
/-- The blocks of the steps up to `j` landed, and their cells closed. -/
def Landing (K : Names) (c : Dev nD) (j : ℕ) : sProp 𝕄 :=
  iprop(known m K ∗ (∃ W, owes (c : Thread nD τ) 0 W)
    ∗ (bigSep (Ge j) fun k => iprop(cred (tallyAt (recvCell c (src c k)) () N) ∗ atPos EX (recvCell c (src c k)) 0 ∅ 0))
    ∗ bigSep (Lt j) fun k => iprop(oPts c (src c k) (outVal m c) ∗ semVal (recvCell c (src c k)) 0))

/-! ## The steps -/

theorem step_send (K : Names) (c : Dev nD) (k : Fin 32) (j j' : ℕ) (hj : k.val = j) (hj' : k.val + 1 = j') (hk : k ≠ 0)
    {n : Dev nD} (hn : n = tgt c k)
    {offo : Fin 2 → Nat} (ho : offo = ![128 * c.val, 0]) {hho} {offa : Fin 3 → Nat} (ha : offa = ![(tgt c k).val, 0, 0]) {hha}
    {sS sR : DmaSem sig} (hS : sS = sendSem k) (hR : sR = recvSem c)
    {hsc : (oSl offo hho : Memref sig (Dev.tc n : Thread nD τ).2.kind .vmem S128x64 .f32).view.ref.isScScratch = false}
    {hsrc : (aSl offa hha).view.WordExact} {hdst : (oSl offo hho).view.WordExact}
    {hsem : DmaTarget.Typed .vmem (.dma sR) (.remote (Dev.tc n : Thread nD τ) (oSl offo hho) (.dma sS) hsc)}
    {α : Type} {Q : α → sProp 𝕄} {kk : PUnit → Prog (TpuEff nD τ sig (Elt F) Λ₀ .tc) α} :
    Sending m K c j ⊢ iprop((Sending m K c j' -∗ WP c (kk ⟨⟩) Q)
      -∗ WP c (.op (.enqueueDma (aSl offa hha) (.remote (Dev.tc n : Thread nD τ) (oSl offo hho) (.dma sS) hsc) (.dma sR) hsrc hdst hsem) kk) Q) := by
  subst hn hS hR hj hj'
  have hne : c ≠ tgt c k := fun h => hk (tgt_eq_self.mp h.symm)
  have hnotGe := not_mem_Ge k
  have hnotLt := not_mem_Lt k
  unfold Sending
  rw [Lt_eq k hk, conj_insert hnotLt, Ge_eq k, conj_insert hnotGe]
  unfold sendTodo
  iintro ⟨#HK, ⟨%W, HO⟩, ⟨⟨Ha, ⟨%fd, Ho⟩, HtR, HtS⟩, Hge⟩, Hlt⟩ Hk
  ihave #HIs := (known_inv m K (c, sendIx k)) $$ HK
  ihave #HIr := (known_inv m K (tgt c k, recvIx c)) $$ HK
  ihave #HRs := (known_reached m K (c, sendIx k)) $$ HK
  ihave #HRr := (known_reached m K (tgt c k, recvIx c)) $$ HK
  ihave Ha' := (Entails.of_eq (aPts_slice c (tgt c k) (accVal m c) offa ha hha)) $$ Ha
  ihave Ho' := (Entails.of_eq (oPts_slice (tgt c k) c fd offo ho hho)) $$ Ho
  iapply (Rounds.wp_send_pointsTo 𝒱₀ EX (sched m) (c : Thread nD τ) none (κ₁ := K (c, sendIx k)) (κ₂ := K (tgt c k, recvIx c))
      (r₁ := 0) (r₂ := 0) (d₁ := 0) (d₂ := 0) (fd := fd) (fs := accVal m c)
      (by rw [duties_send m c k hk]; exact Finset.mem_singleton_self _) (by rw [duties_recv m (tgt c k) c hne]; exact Finset.mem_singleton_self _)
      () () N rfl (amount_send m c k 0) (amount_recv m (tgt c k) c 0) (recvOwe c (k.val + 1)) (recvOwe_step c k) (W := W)
      (by rw [payload_send m c k 0]; exact Entails.of_eq (aPts_slice c (tgt c k) (accVal m c) offa ha hha).symm)
      (by
        rw [payload_recv m (tgt c k) c 0]
        refine Entails.of_eq (Eq.trans ?_ (oPts_slice (tgt c k) c (outVal m (tgt c k)) offo ho hho).symm)
        refine pointsTo_congr fun i hi => ?_
        exact landing m c (tgt c k) offo ho offa ha hho hha fd i (by rw [← oSl_set c offo ho hho]; exact hi)))
    $$ [HO Ha' Ho' HtR HtS]
  · isplitr; · iexact HIs
    isplitr; · iexact HIr
    isplitl [Ha']; · iexact Ha'
    isplitl [Ho']; · iexact Ho'
    isplitl [HO]; · iexact HO
    isplitl [HtS]; · iexact HtS
    isplitr; · iexact HRs
    isplitl [HtR]; · iexact HtR
    iexact HRr
  iintro ⟨Hc, HO⟩
  iapply Hk
  isplitr; · iexact HK
  isplitl [HO]; · iexists W; iexact HO
  isplitl [Hge]; · iexact Hge
  isplitl [Hc] <;> iassumption

theorem step_drain (K : Names) (c : Dev nD) (k : Fin 32) (j j' : ℕ) (hj : k.val = j) (hj' : k.val + 1 = j') (hk : k ≠ 0)
    {sS : DmaSem sig} (hS : sS = sendSem k) {sp : Space} {s : Shape} {e : EltTy} {src : Memref sig .tc sp s e} {offa : Fin 3 → Nat} {hha}
    {hsrc : src.view.WordExact} {hdst : (aSl offa hha).view.WordExact}
    {α : Type} {Q : α → sProp 𝕄} {kk : PUnit → Prog (TpuEff nD τ sig (Elt F) Λ₀ .tc) α} :
    Draining m K c j ⊢ iprop((Draining m K c j' -∗ WP c (kk ⟨⟩) Q)
      -∗ WP c (.op (.waitDma2 sS src (aSl offa hha) hsrc hdst) kk) Q) := by
  subst hS hj hj'
  have hnotGe := not_mem_Ge k
  have hnotLt := not_mem_Lt k
  unfold Draining
  rw [Lt_eq k hk, conj_insert hnotLt, Ge_eq k, conj_insert hnotGe]
  iintro ⟨#HK, ⟨%W, HO⟩, ⟨⟨Hc, Hat⟩, Hge⟩, Hlt⟩ Hk
  ihave #HIs := (known_inv m K (c, sendIx k)) $$ HK
  iapply (Rounds.wp_wait_rest_token 𝒱₀ EX (sched m) (c : Thread nD τ) none (κ := K (c, sendIx k))
      (wpE_waitDma2_eq 𝒱₀ (c : Thread nD τ) none Set.univ) (Set.mem_univ _) () (O := 0) (W := W) (R := 0) (m := 0) (T := ∅)
      (by rw [Nat.zero_add, expect_send m c k hk]; rfl)) $$ [Hc HO Hat]
  · isplitr; · iexact HIs
    isplitl [Hc]; · iexact Hc
    isplitl [HO]; · iexact HO
    isplitr; · rw [MayWait_zero]; iempintro
    iexact Hat
  iintro ⟨HO, Hat, -, Hpay⟩
  ihave Ha := (Entails.of_eq (rest_send m c k hk)) $$ Hpay
  imod (Rounds.cell_close EX (sched m) (Set.mem_univ (K (c, sendIx k))) (fun h => h) (R := 0 + 1) (duties_later m (sendCell c k))) $$ [Hat] with Hz
  · isplitr; · iexact HIs
    iexact Hat
  iapply Hk
  isplitr; · iexact HK
  isplitl [HO]; · iexists _; iexact HO
  isplitl [Hge]; · iexact Hge
  isplitl [Ha Hz]
  · isplitl [Ha] <;> iassumption
  iexact Hlt

theorem step_land (K : Names) (c : Dev nD) (k : Fin 32) (j j' : ℕ) (hj : k.val = j) (hj' : k.val + 1 = j') (hk : k ≠ 0)
    {sR : DmaSem sig} (hR : sR = recvSem (src c k)) {sp : Space} {s : Shape} {e : EltTy} {sm : Memref sig .tc sp s e} {offo : Fin 2 → Nat} {hho}
    {hsrc : sm.view.WordExact} {hdst : (oSl offo hho).view.WordExact}
    {α : Type} {Q : α → sProp 𝕄} {kk : PUnit → Prog (TpuEff nD τ sig (Elt F) Λ₀ .tc) α} :
    Landing m K c j ⊢ iprop((Landing m K c j' -∗ WP c (kk ⟨⟩) Q)
      -∗ WP c (.op (.waitDma2 sR sm (oSl offo hho) hsrc hdst) kk) Q) := by
  subst hR hj hj'
  have hne : src c k ≠ c := fun h => hk (src_eq_self.mp h)
  have hnotGe := not_mem_Ge k
  have hnotLt := not_mem_Lt k
  unfold Landing
  rw [Lt_eq k hk, conj_insert hnotLt, Ge_eq k, conj_insert hnotGe]
  iintro ⟨#HK, ⟨%W, HO⟩, ⟨⟨Hc, Hat⟩, Hge⟩, Hlt⟩ Hk
  ihave #HIr := (known_inv m K (c, recvIx (src c k))) $$ HK
  iapply (Rounds.wp_wait_rest_token 𝒱₀ EX (sched m) (c : Thread nD τ) none (κ := K (c, recvIx (src c k)))
      (wpE_waitDma2_eq 𝒱₀ (c : Thread nD τ) none Set.univ) (Set.mem_univ _) () (O := 0) (W := W) (R := 0) (m := 0) (T := ∅)
      (by rw [Nat.zero_add, expect_recv m c (src c k) hne]; rfl)) $$ [Hc HO Hat]
  · isplitr; · iexact HIr
    isplitl [Hc]; · iexact Hc
    isplitl [HO]; · iexact HO
    isplitr; · rw [MayWait_zero]; iempintro
    iexact Hat
  iintro ⟨HO, Hat, -, Hpay⟩
  ihave Ho := (Entails.of_eq (rest_recv m c (src c k) hne)) $$ Hpay
  imod (Rounds.cell_close EX (sched m) (Set.mem_univ (K (c, recvIx (src c k)))) (fun h => h) (R := 0 + 1) (duties_later m (recvCell c (src c k)))) $$ [Hat] with Hz
  · isplitr; · iexact HIr
    iexact Hat
  iapply Hk
  isplitr; · iexact HK
  isplitl [HO]; · iexists _; iexact HO
  isplitl [Hge]; · iexact Hge
  isplitl [Ho Hz]
  · isplitl [Ho] <;> iassumption
  iexact Hlt

end Cert.KernelIdeal.Exchange
-- ==== Proof.KernelIdeal.Entry.lean ====
/- The phases before the transfers: the entry signals and the entry wait, the scratch filled block by block, and the
   device's own block stored straight into its result. -/
module

public import proofs.«01_k».proof.Proof.KernelIdeal.Steps

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ)

/-! ## The entry -/

/-- What the entry signal of step `k` needs: the duty it pays, and the rows it hands over. -/
def enterTodo (c : Dev nD) (k : Fin 32) : sProp 𝕄 :=
  iprop(dutyTok EX (barCell (tgt c k)) 0 c ∗ ∃ f, oPts (F := F) c (tgt c k) f)
/-- The entry signals of the steps from `j` on still to be sent. -/
def Entering (K : Names) (c : Dev nD) (j : ℕ) : sProp 𝕄 :=
  iprop(known m K ∗ (∃ W, owes (c : Thread nD τ) (recvOwe c 1 + entryOwe c j) W) ∗ bigSep (Ge j) (enterTodo (F := F) c))

theorem step_enter (K : Names) (c : Dev nD) (k : Fin 32) (j j' : ℕ) (hj : k.val = j) (hj' : k.val + 1 = j') (hk : k ≠ 0)
    {n : Dev nD} (hn : n = tgt c k) {α : Type} {Q : α → sProp 𝕄} {kk : PUnit → Prog (TpuEff nD τ sig (Elt F) Λ₀ .tc) α} :
    Entering m K c j ⊢ iprop((Entering m K c j' -∗ WP c (kk ⟨⟩) Q) -∗ WP c (.op (.semSignal (n : Thread nD τ) barS (1#32).toInt) kk) Q) := by
  subst hn hj hj'
  have hne : c ≠ tgt c k := fun h => hk (tgt_eq_self.mp h.symm)
  unfold Entering
  rw [Ge_eq k, conj_insert (not_mem_Ge k)]
  unfold enterTodo
  iintro ⟨#HK, ⟨%W, HO⟩, ⟨Ht, Ho⟩, Hge⟩ Hk
  ihave #HI := (known_inv m K (tgt c k, entryIx)) $$ HK
  ihave #HR := (known_reached m K (tgt c k, entryIx)) $$ HK
  iapply (Rounds.wp_signal 𝒱₀ EX (sched m) (c : Thread nD τ) none (dst := (tgt c k : Thread nD τ)) (κ := K (tgt c k, entryIx))
      (d := c) (by rw [duties_entry]; exact Finset.mem_erase.mpr ⟨hne, Finset.mem_univ _⟩) ((amount_entry m (tgt c k) c).trans (by decide)) ()
      (recvOwe c 1 + entryOwe c (k.val + 1)) (entryOwe_step c k (recvOwe c 1)) (W := W))
    $$ [HO Ht Ho]
  · isplitr; · iexact HI
    isplitl [HO]; · iexact HO
    isplitl [Ht]; · iexact Ht
    isplitl [Ho]
    · rw [payload_entry]; unfold entryPay; iexact Ho
    iexact HR
  iintro HO
  iapply Hk
  isplitr; · iexact HK
  isplitl [HO]; · iexists W; iexact HO
  iexact Hge

/-- What the entry wait brings in, by step: each target's rows for this device. -/
theorem rest_entry (c : Dev nD) :
    bigSep ((sched (F := F) m).duties (barCell c) 0 \ ∅) (fun d => (sched (F := F) m).payload (barCell c) 0 d)
      = bigSep (Ge 1) fun k => iprop(∃ f, oPts (F := F) (tgt c k) c f) := by
  have hmap : (Finset.univ.erase c : Finset (Fin 32)) = (Ge 1).map (tgtEquiv c).toEmbedding := by
    ext d
    rw [Finset.mem_erase, Finset.mem_map]
    constructor
    · rintro ⟨h, -⟩
      refine ⟨src d c, mem_Ge.mpr ?_, tgt_back c d⟩
      by_contra h'
      have h0 : src d c = 0 := Fin.ext (by show (src d c).val = 0; omega)
      exact h (by rw [← tgt_back c d, h0, tgt_zero])
    · rintro ⟨k, hk, rfl⟩
      exact ⟨fun h => ne_zero_of_mem hk (tgt_eq_self.mp h), Finset.mem_univ _⟩
  rw [Finset.sdiff_empty, duties_entry, hmap, bigSep_map]
  rfl

theorem step_entered (K : Names) (c : Dev nD) {α : Type} {Q : α → sProp 𝕄} {kk : PUnit → Prog (TpuEff nD τ sig (Elt F) Λ₀ .tc) α} :
    iprop(Entering m K c 32 ∗ cred (tallyAt (barCell c) () 31) ∗ atPos EX (barCell c) 0 ∅ 0 ∗ levAts levels lev)
      ⊢ iprop((((∃ W, owes (c : Thread nD τ) (recvOwe c 1) W) ∗ semVal (barCell c) 0 ∗ bigSep (Ge 1) fun k => iprop(∃ f, oPts (F := F) (tgt c k) c f))
          -∗ WP c (kk ⟨⟩) Q) -∗ WP c (.op (.semWait barS (31#32).toInt) kk) Q) := by
  unfold Entering
  rw [entryOwe_32, add_zero]
  iintro ⟨⟨#HK, ⟨%W, HO⟩, -⟩, Hc, Hat, #Hlev⟩ Hk
  ihave #HI := (known_inv m K (c, entryIx)) $$ HK
  iapply (Rounds.wp_wait_rest_token 𝒱₀ EX (sched m) (c : Thread nD τ) none (κ := K (c, entryIx))
      (wpE_semWait_eq 𝒱₀ (c : Thread nD τ) none Set.univ) (Set.mem_univ _) () (O := recvOwe c 1) (W := W) (R := 0) (m := 0) (T := ∅)
      (by rw [expect_entry]; decide)) $$ [Hc HO Hat]
  · isplitr; · iexact HI
    isplitl [Hc]; · iexact Hc
    isplitl [HO]; · iexact HO
    isplitr; · iapply (mayWait_entry c); iexact Hlev
    iexact Hat
  iintro ⟨HO, Hat, -, Hpay⟩
  ihave Ho := (Entails.of_eq (rest_entry m c)) $$ Hpay
  imod (Rounds.cell_close EX (sched m) (Set.mem_univ (K (c, entryIx))) (fun h => h) (R := 0 + 1) (duties_later m (barCell c))) $$ [Hat] with Hz
  · isplitr; · iexact HI
    iexact Hat
  iapply Hk
  isplitl [HO]; · iexists _; iexact HO
  isplitl [Hz] <;> iassumption

/-! ## The scratch -/

/-- Blocks below `j` of the scratch filled. -/
def Filled (c : Dev nD) (j : ℕ) : sProp 𝕄 :=
  iprop(∃ f : Buf (Elt F) ((c : Thread nD τ).loc cc0_scratch0), ⌜∀ i : S32x128x64.Idx, (i 0).val < j → f i = accVal m c i⌝
    ∗ (((c : Thread nD τ).loc cc0_scratch0) ↦{fullShare} f))

/-- A load of a block whose value is not used. -/
theorem step_peek (c : Dev nD) (j : ℕ) {r : LoadRect S32x128x64} {hl : (aM : Memref sig .tc .vmem S32x128x64 .f32).view.LoadsAt r}
    {α : Type} {Q : α → sProp 𝕄} {kk : (r.shape.Idx → Elt F .f32) → Prog (TpuEff nD τ sig (Elt F) Λ₀ .tc) α} :
    Filled m c j ⊢ iprop((∀ v, Filled m c j -∗ WP c (kk v) Q) -∗ WP c (.op (.load aM r hl) kk) Q) := by
  unfold Filled
  iintro ⟨%f, %hf, Ha⟩ Hk
  iapply (wp_load 𝒱₀ (c : Thread nD τ) none Set.univ (m := aM) (Finset.subset_univ _)) $$ Ha
  iintro Ha
  iapply Hk
  iexists f
  isplitr; · (ipureintro; exact hf)
  iexact Ha

/-- The store of block `j`. -/
theorem step_fill (c : Dev nD) (k : Fin 32) (j j' : ℕ) (hj : k.val = j) (hj' : k.val + 1 = j') {off : Fin 3 → Nat} (ho : off = ![k.val, 0, 0]) {h}
    {w : S1x128x64.Idx → Elt F .f32} (hw : ∀ x : S1x128x64.Idx, w x = accVal m c (ix3 k (x 1) (x 2)))
    {hx : ((aM : Memref sig .tc .vmem S32x128x64 .f32).access (Rect.unit (s := S32x128x64) off S1x128x64.size h)).Stores Finset.univ}
    {hm : (Finset.univ : Finset (Rect.unit (s := S32x128x64) off S1x128x64.size h).shape.Idx) = Finset.univ ∨ ∀ a, (Rect.unit (s := S32x128x64) off S1x128x64.size h).stride a = 1}
    {α : Type} {Q : α → sProp 𝕄} {kk : PUnit → Prog (TpuEff nD τ sig (Elt F) Λ₀ .tc) α} :
    Filled m c j ⊢ iprop((Filled m c j' -∗ WP c (kk ⟨⟩) Q)
      -∗ WP c (.op (.store aM (Rect.unit (s := S32x128x64) off S1x128x64.size h) w Finset.univ hx hm) kk) Q) := by
  subst hj hj' ho
  have hset : ((aM : Memref sig .tc .vmem S32x128x64 .f32).access (Rect.unit (s := S32x128x64) ![k.val, 0, 0] S1x128x64.size h)).set = accRows k := by
    show ((View.whole cc0_scratch0).slice _).set = _
    rw [View.set_slice_whole, rect_acc k _ rfl h]
  unfold Filled
  iintro ⟨%f, %hf, Ha⟩ Hk
  iapply (wp_store 𝒱₀ (c : Thread nD τ) none Set.univ (m := aM) (r := Rect.unit (s := S32x128x64) ![k.val, 0, 0] S1x128x64.size h) (Mk := Finset.univ) (Finset.subset_univ _)) $$ Ha
  iintro Ha
  iapply Hk
  iexists _
  isplitr
  rotate_left
  · iexact Ha
  · ipureintro
    intro i hi
    by_cases hik : (i 0).val = k.val
    · have hmem : i ∈ ((aM : Memref sig .tc .vmem S32x128x64 .f32).access (Rect.unit (s := S32x128x64) ![k.val, 0, 0] S1x128x64.size h)).set := by
        rw [hset]
        exact mem_accRows.mpr hik
      obtain ⟨x, -, rfl⟩ := Finset.mem_map.mp hmem
      rw [View.write_emb_of_mem _ _ (Finset.mem_univ x)]
      refine (hw x).trans (congrArg (accVal m c) (funext fun a => Fin.ext ?_))
      match a with
      | ⟨0, _⟩ =>
        show k.val = k.val + 1 * (x 0).val
        have : (x 0).val < 1 := (x 0).isLt
        omega
      | ⟨1, _⟩ => show (x 1).val = 0 + 1 * (x 1).val; omega
      | ⟨2, _⟩ => show (x 2).val = 0 + 1 * (x 2).val; omega
    · rw [View.write_of_not_mem]
      · exact hf i (by omega)
      · show i ∉ ((aM : Memref sig .tc .vmem S32x128x64 .f32).access (Rect.unit (s := S32x128x64) ![k.val, 0, 0] S1x128x64.size h)).set
        rw [hset]
        exact fun h' => hik (mem_accRows.mp h')

/-- Columns `64 j` to `64 j + 63` of what the device computes are block `j` of the scratch. -/
theorem piece (c : Dev nD) (k : Fin 32) (off : Fin 2 → Nat) (ho : off = ![0, 64 * k.val]) (h1 : S128x2048.Slices off S128x64) (h2 : S128x64.ShapeCasts S1x128x64)
    (x : S1x128x64.Idx) : shapeCast S1x128x64 (extractStridedSlice S128x64 off (prod m c) h1) h2 x = accVal m c (ix3 k (x 1) (x 2)) := by
  subst ho
  refine (shapeCast_addUnit_apply ![128, 64] _ h2 x).trans ?_
  refine (extractStridedSlice_apply _ _ h1 _ (ix2 (x 1) ⟨64 * k.val + (x 2).val, by
    have h0 := k.isLt
    have h2 : (x 2).val < 64 := (x 2).isLt
    omega⟩) ?_).trans rfl
  intro a
  match a with
  | ⟨0, _⟩ => show (x 1).val = 0 + (x 1).val; omega
  | ⟨1, _⟩ => show 64 * k.val + (x 2).val = 64 * k.val + (x 2).val; rfl

/-! ## The device's own block -/

theorem own_block (c : Dev nD) (offo : Fin 2 → Nat) (ho : offo = ![128 * c.val, 0]) (hho) (offa : Fin 3 → Nat) (ha : offa = ![c.val, 0, 0]) (hha)
    (fd : S4096x64.Idx → Elt F .f32) :
    ∀ i ∈ outRows c, ((oM : Memref sig .tc .vmem S4096x64 .f32).access (Rect.unit (s := S4096x64) offo S128x64.size hho)).write (Elt F) fd
      (k0_pay36 ((aM : Memref sig .tc .vmem S32x128x64 .f32).view.readAt (Elt F) (Rect.unit (s := S32x128x64) offa S1x128x64.size hha).toLoadRect (accVal m c)))
      Finset.univ i = outVal m c i :=
  fun i hi => landing m c c offo ho offa ha hho hha fd i hi

/-- The own block loaded from the filled scratch, and stored. -/
theorem step_own (c : Dev nD) {offo : Fin 2 → Nat} (ho : offo = ![128 * c.val, 0]) {hho} {offa : Fin 3 → Nat} (ha : offa = ![c.val, 0, 0]) {hha}
    {hl1 : (aM : Memref sig .tc .vmem S32x128x64 .f32).view.LoadsAt (Rect.unit (s := S32x128x64) offa S1x128x64.size hha).toLoadRect}
    {hl2 : (oM : Memref sig .tc .vmem S4096x64 .f32).view.LoadsAt (Rect.unit (s := S4096x64) offo S128x64.size hho).toLoadRect}
    {hx : ((oM : Memref sig .tc .vmem S4096x64 .f32).access (Rect.unit (s := S4096x64) offo S128x64.size hho)).Stores Finset.univ}
    {hm : (Finset.univ : Finset (Rect.unit (s := S4096x64) offo S128x64.size hho).shape.Idx) = Finset.univ ∨ ∀ a, (Rect.unit (s := S4096x64) offo S128x64.size hho).stride a = 1}
    {α : Type} {Q : α → sProp 𝕄} {kk : PUnit → Prog (TpuEff nD τ sig (Elt F) Λ₀ .tc) α} :
    iprop(Filled m c 32 ∗ ∃ f, oPts (F := F) c c f)
      ⊢ iprop((((((c : Thread nD τ).loc cc0_scratch0) ↦{fullShare} accVal m c) ∗ oPts c c (outVal m c)) -∗ WP c (kk ⟨⟩) Q)
      -∗ WP c (.op (.load aM (Rect.unit (s := S32x128x64) offa S1x128x64.size hha).toLoadRect hl1) fun v =>
          .op (.load oM (Rect.unit (s := S4096x64) offo S128x64.size hho).toLoadRect hl2) fun _ =>
            .op (.store oM (Rect.unit (s := S4096x64) offo S128x64.size hho) (k0_pay36 v) Finset.univ hx hm) kk) Q) := by
  have hset : ((oM : Memref sig .tc .vmem S4096x64 .f32).access (Rect.unit (s := S4096x64) offo S128x64.size hho)).set = outRows c := by
    show ((View.whole cc0_stg2_0).slice _).set = _
    rw [View.set_slice_whole, rect_out c offo ho hho]
  unfold Filled
  iintro ⟨⟨%f, %hf, Ha⟩, ⟨%fd, Ho⟩⟩ Hk
  have hfe : f = accVal m c := funext fun i => hf i (i 0).isLt
  subst hfe
  iapply (wp_load 𝒱₀ (c : Thread nD τ) none Set.univ (m := aM) (Finset.subset_univ _)) $$ Ha
  iintro Ha
  unfold oPts
  iapply (wp_load 𝒱₀ (c : Thread nD τ) none Set.univ (m := oM) (S := outRows c)
    (by rw [← hset]; exact (View.set_slice _ _).symm.subset)) $$ Ho
  iintro Ho
  iapply (wp_store 𝒱₀ (c : Thread nD τ) none Set.univ (m := oM) (r := Rect.unit (s := S4096x64) offo S128x64.size hho) (Mk := Finset.univ) (S := outRows c)
    (by rw [← hset]; exact Finset.Subset.refl _)) $$ Ho
  iintro Ho
  iapply Hk
  isplitl [Ha]; · iexact Ha
  iapply (Entails.of_eq (pointsTo_congr (own_block m c offo ho hho offa ha hha fd)))
  iexact Ho

end Cert.KernelIdeal.Exchange
-- ==== Proof.KernelIdeal.PartsFill.lean ====
/- The parts of the body that fill the scratch. -/
module

public import proofs.«01_k».proof.Proof.KernelIdeal.Entry

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ)

theorem part2 (c : Dev nD) {α : Type} {Q : α → sProp 𝕄} {kk : (FVec F S128x64 .f32) → Prog (TpuEff nD τ sig (Elt F) Λ₀ .tc) α} :
    Filled m c 3 ⊢ iprop((Filled m c 11 -∗ WP c (kk (k0_pay13 (prod m c))) Q) -∗ WP c (k0_part2 (F := F) xM (Memref.isWhole_whole _) wM (Memref.isWhole_whole _) oM (Memref.isWhole_whole _) aM (Memref.isWhole_whole _) cc0_scratch1 cc0_scratch2 (prod m c) (k0_pay5 (xstg m c) (wstg m c)) >>= kk) Q) := by
  rw [k0_part2_eq_skeleton]
  unfold k0_part2_skel
  simp only [semSignalWord, semWaitWord, Prog.lift, Prog.bind_op, Prog.bind_ret, Prog.pure_eq_ret, wp_deviceId]
  iintro H Hk
  iapply (step_fill m c 3 3 4 rfl rfl rfl (piece m c 3 _ rfl slices_S128x2048_o0_192_S128x64 shapeCasts_S128x64_S1x128x64)) $$ H
  iintro H
  iapply (step_peek m c 4) $$ H
  iintro %_ H
  iapply (step_fill m c 4 4 5 rfl rfl rfl (piece m c 4 _ rfl slices_S128x2048_o0_256_S128x64 shapeCasts_S128x64_S1x128x64)) $$ H
  iintro H
  iapply (step_peek m c 5) $$ H
  iintro %_ H
  iapply (step_fill m c 5 5 6 rfl rfl rfl (piece m c 5 _ rfl slices_S128x2048_o0_320_S128x64 shapeCasts_S128x64_S1x128x64)) $$ H
  iintro H
  iapply (step_peek m c 6) $$ H
  iintro %_ H
  iapply (step_fill m c 6 6 7 rfl rfl rfl (piece m c 6 _ rfl slices_S128x2048_o0_384_S128x64 shapeCasts_S128x64_S1x128x64)) $$ H
  iintro H
  iapply (step_peek m c 7) $$ H
  iintro %_ H
  iapply (step_fill m c 7 7 8 rfl rfl rfl (piece m c 7 _ rfl slices_S128x2048_o0_448_S128x64 shapeCasts_S128x64_S1x128x64)) $$ H
  iintro H
  iapply (step_peek m c 8) $$ H
  iintro %_ H
  iapply (step_fill m c 8 8 9 rfl rfl rfl (piece m c 8 _ rfl slices_S128x2048_o0_512_S128x64 shapeCasts_S128x64_S1x128x64)) $$ H
  iintro H
  iapply (step_peek m c 9) $$ H
  iintro %_ H
  iapply (step_fill m c 9 9 10 rfl rfl rfl (piece m c 9 _ rfl slices_S128x2048_o0_576_S128x64 shapeCasts_S128x64_S1x128x64)) $$ H
  iintro H
  iapply (step_peek m c 10) $$ H
  iintro %_ H
  iapply (step_fill m c 10 10 11 rfl rfl rfl (piece m c 10 _ rfl slices_S128x2048_o0_640_S128x64 shapeCasts_S128x64_S1x128x64)) $$ H
  iintro H
  iapply Hk
  iexact H

theorem part3 (c : Dev nD) {α : Type} {Q : α → sProp 𝕄} {kk : (FVec F S1x128x64 .f32) → Prog (TpuEff nD τ sig (Elt F) Λ₀ .tc) α} :
    Filled m c 11 ⊢ iprop((Filled m c 18 -∗ WP c (kk (k0_pay21 (prod m c))) Q) -∗ WP c (k0_part3 (F := F) xM (Memref.isWhole_whole _) wM (Memref.isWhole_whole _) oM (Memref.isWhole_whole _) aM (Memref.isWhole_whole _) cc0_scratch1 cc0_scratch2 (prod m c) (k0_pay13 (prod m c)) >>= kk) Q) := by
  rw [k0_part3_eq_skeleton]
  unfold k0_part3_skel
  simp only [semSignalWord, semWaitWord, Prog.lift, Prog.bind_op, Prog.bind_ret, Prog.pure_eq_ret, wp_deviceId]
  iintro H Hk
  iapply (step_peek m c 11) $$ H
  iintro %_ H
  iapply (step_fill m c 11 11 12 rfl rfl rfl (piece m c 11 _ rfl slices_S128x2048_o0_704_S128x64 shapeCasts_S128x64_S1x128x64)) $$ H
  iintro H
  iapply (step_peek m c 12) $$ H
  iintro %_ H
  iapply (step_fill m c 12 12 13 rfl rfl rfl (piece m c 12 _ rfl slices_S128x2048_o0_768_S128x64 shapeCasts_S128x64_S1x128x64)) $$ H
  iintro H
  iapply (step_peek m c 13) $$ H
  iintro %_ H
  iapply (step_fill m c 13 13 14 rfl rfl rfl (piece m c 13 _ rfl slices_S128x2048_o0_832_S128x64 shapeCasts_S128x64_S1x128x64)) $$ H
  iintro H
  iapply (step_peek m c 14) $$ H
  iintro %_ H
  iapply (step_fill m c 14 14 15 rfl rfl rfl (piece m c 14 _ rfl slices_S128x2048_o0_896_S128x64 shapeCasts_S128x64_S1x128x64)) $$ H
  iintro H
  iapply (step_peek m c 15) $$ H
  iintro %_ H
  iapply (step_fill m c 15 15 16 rfl rfl rfl (piece m c 15 _ rfl slices_S128x2048_o0_960_S128x64 shapeCasts_S128x64_S1x128x64)) $$ H
  iintro H
  iapply (step_peek m c 16) $$ H
  iintro %_ H
  iapply (step_fill m c 16 16 17 rfl rfl rfl (piece m c 16 _ rfl slices_S128x2048_o0_1024_S128x64 shapeCasts_S128x64_S1x128x64)) $$ H
  iintro H
  iapply (step_peek m c 17) $$ H
  iintro %_ H
  iapply (step_fill m c 17 17 18 rfl rfl rfl (piece m c 17 _ rfl slices_S128x2048_o0_1088_S128x64 shapeCasts_S128x64_S1x128x64)) $$ H
  iintro H
  iapply (step_peek m c 18) $$ H
  iintro %_ H
  iapply Hk
  iexact H

theorem part4 (c : Dev nD) {α : Type} {Q : α → sProp 𝕄} {kk : (FVec F S128x64 .f32) → Prog (TpuEff nD τ sig (Elt F) Λ₀ .tc) α} :
    Filled m c 18 ⊢ iprop((Filled m c 26 -∗ WP c (kk (k0_pay29 (prod m c))) Q) -∗ WP c (k0_part4 (F := F) xM (Memref.isWhole_whole _) wM (Memref.isWhole_whole _) oM (Memref.isWhole_whole _) aM (Memref.isWhole_whole _) cc0_scratch1 cc0_scratch2 (prod m c) (k0_pay21 (prod m c)) >>= kk) Q) := by
  rw [k0_part4_eq_skeleton]
  unfold k0_part4_skel
  simp only [semSignalWord, semWaitWord, Prog.lift, Prog.bind_op, Prog.bind_ret, Prog.pure_eq_ret, wp_deviceId]
  iintro H Hk
  iapply (step_fill m c 18 18 19 rfl rfl rfl (piece m c 18 _ rfl slices_S128x2048_o0_1152_S128x64 shapeCasts_S128x64_S1x128x64)) $$ H
  iintro H
  iapply (step_peek m c 19) $$ H
  iintro %_ H
  iapply (step_fill m c 19 19 20 rfl rfl rfl (piece m c 19 _ rfl slices_S128x2048_o0_1216_S128x64 shapeCasts_S128x64_S1x128x64)) $$ H
  iintro H
  iapply (step_peek m c 20) $$ H
  iintro %_ H
  iapply (step_fill m c 20 20 21 rfl rfl rfl (piece m c 20 _ rfl slices_S128x2048_o0_1280_S128x64 shapeCasts_S128x64_S1x128x64)) $$ H
  iintro H
  iapply (step_peek m c 21) $$ H
  iintro %_ H
  iapply (step_fill m c 21 21 22 rfl rfl rfl (piece m c 21 _ rfl slices_S128x2048_o0_1344_S128x64 shapeCasts_S128x64_S1x128x64)) $$ H
  iintro H
  iapply (step_peek m c 22) $$ H
  iintro %_ H
  iapply (step_fill m c 22 22 23 rfl rfl rfl (piece m c 22 _ rfl slices_S128x2048_o0_1408_S128x64 shapeCasts_S128x64_S1x128x64)) $$ H
  iintro H
  iapply (step_peek m c 23) $$ H
  iintro %_ H
  iapply (step_fill m c 23 23 24 rfl rfl rfl (piece m c 23 _ rfl slices_S128x2048_o0_1472_S128x64 shapeCasts_S128x64_S1x128x64)) $$ H
  iintro H
  iapply (step_peek m c 24) $$ H
  iintro %_ H
  iapply (step_fill m c 24 24 25 rfl rfl rfl (piece m c 24 _ rfl slices_S128x2048_o0_1536_S128x64 shapeCasts_S128x64_S1x128x64)) $$ H
  iintro H
  iapply (step_peek m c 25) $$ H
  iintro %_ H
  iapply (step_fill m c 25 25 26 rfl rfl rfl (piece m c 25 _ rfl slices_S128x2048_o0_1600_S128x64 shapeCasts_S128x64_S1x128x64)) $$ H
  iintro H
  iapply Hk
  iexact H

theorem part5 (c : Dev nD) (v2 : BitVec 32) {α : Type} {Q : α → sProp 𝕄} {kk : (Σ' (v146 : BitVec 32) (c32_i32_77 : BitVec 32), BitVec 32) → Prog (TpuEff nD τ sig (Elt F) Λ₀ .tc) α} :
    iprop(Filled m c 26 ∗ ∃ f, oPts (F := F) c c f) ⊢ iprop((∀ a₁ a₂ a₃, ((((c : Thread nD τ).loc cc0_scratch0) ↦{fullShare} accVal m c) ∗ oPts c c (outVal m c)) -∗ WP c (kk ⟨a₁, a₂, a₃⟩) Q) -∗ WP c (k0_part5 (F := F) xM (Memref.isWhole_whole _) wM (Memref.isWhole_whole _) oM (Memref.isWhole_whole _) aM (Memref.isWhole_whole _) cc0_scratch1 cc0_scratch2 c v2 (prod m c) (k0_pay29 (prod m c)) >>= kk) Q) := by
  rw [k0_part5_eq_skeleton]
  unfold k0_part5_skel
  simp only [semSignalWord, semWaitWord, Prog.lift, Prog.bind_op, Prog.bind_ret, Prog.pure_eq_ret, wp_deviceId]
  iintro ⟨H, Ho⟩ Hk
  iapply (step_peek m c 26) $$ H
  iintro %_ H
  iapply (step_fill m c 26 26 27 rfl rfl rfl (piece m c 26 _ rfl slices_S128x2048_o0_1664_S128x64 shapeCasts_S128x64_S1x128x64)) $$ H
  iintro H
  iapply (step_peek m c 27) $$ H
  iintro %_ H
  iapply (step_fill m c 27 27 28 rfl rfl rfl (piece m c 27 _ rfl slices_S128x2048_o0_1728_S128x64 shapeCasts_S128x64_S1x128x64)) $$ H
  iintro H
  iapply (step_peek m c 28) $$ H
  iintro %_ H
  iapply (step_fill m c 28 28 29 rfl rfl rfl (piece m c 28 _ rfl slices_S128x2048_o0_1792_S128x64 shapeCasts_S128x64_S1x128x64)) $$ H
  iintro H
  iapply (step_peek m c 29) $$ H
  iintro %_ H
  iapply (step_fill m c 29 29 30 rfl rfl rfl (piece m c 29 _ rfl slices_S128x2048_o0_1856_S128x64 shapeCasts_S128x64_S1x128x64)) $$ H
  iintro H
  iapply (step_peek m c 30) $$ H
  iintro %_ H
  iapply (step_fill m c 30 30 31 rfl rfl rfl (piece m c 30 _ rfl slices_S128x2048_o0_1920_S128x64 shapeCasts_S128x64_S1x128x64)) $$ H
  iintro H
  iapply (step_peek m c 31) $$ H
  iintro %_ H
  iapply (step_fill m c 31 31 32 rfl rfl rfl (piece m c 31 _ rfl slices_S128x2048_o0_1984_S128x64 shapeCasts_S128x64_S1x128x64)) $$ H
  iintro H
  iapply (step_own m c (off2_eq c) (off1_eq c)) $$ [H Ho]
  · isplitl [H]; · iexact H
    iexact Ho
  iintro H
  iapply Hk
  iexact H

end Cert.KernelIdeal.Exchange
-- ==== Proof.KernelIdeal.PartsSend.lean ====
/- The parts of the body that send, and the step from one phase to the next. -/
module

public import proofs.«01_k».proof.Proof.KernelIdeal.Entry

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ)

/-! ## From one phase to the next -/

/-- The device's positions on its departure cells. -/
def Poised (c : Dev nD) : sProp 𝕄 := bigSep (Ge 1) fun k => atPos EX (sendCell c k) 0 ∅ 0
/-- What the arrival waits need. -/
def Awaiting (c : Dev nD) : sProp 𝕄 :=
  bigSep (Ge 1) fun k => iprop(cred (tallyAt (recvCell c (src c k)) () N) ∗ atPos EX (recvCell c (src c k)) 0 ∅ 0)
/-- The sources back, their cells closed. -/
def Drained (c : Dev nD) : sProp 𝕄 := bigSep (Ge 1) fun k => iprop(aPts c (tgt c k) (accVal m c) ∗ semVal (sendCell c k) 0)
/-- The blocks landed, their cells closed. -/
def Landed (c : Dev nD) : sProp 𝕄 := bigSep (Ge 1) fun k => iprop(oPts c (src c k) (outVal m c) ∗ semVal (recvCell c (src c k)) 0)

theorem begin_drain (K : Names) (c : Dev nD) : iprop(Sending m K c 32 ∗ Poised (F := F) c) ⊢ Draining m K c 1 := by
  unfold Sending Draining Poised
  rw [recvOwe_32, Ge_32, Lt_32, Lt_1, bigSep_empty, bigSep_empty]
  iintro ⟨⟨HK, HO, -, Hc⟩, Hp⟩
  isplitl [HK]; · iexact HK
  isplitl [HO]; · iexact HO
  isplitl [Hc Hp]
  · rw [bigSep_sep']; isplitl [Hc] <;> iassumption
  iempintro

theorem begin_land (K : Names) (c : Dev nD) : iprop(Draining m K c 32 ∗ Awaiting (F := F) c) ⊢ iprop(Landing m K c 1 ∗ Drained m c) := by
  unfold Draining Landing Awaiting Drained
  rw [Ge_32, Lt_32, Lt_1, bigSep_empty, bigSep_empty]
  iintro ⟨⟨HK, HO, -, Hd⟩, Hw⟩
  isplitr [Hd]
  · isplitl [HK]; · iexact HK
    isplitl [HO]; · iexact HO
    isplitl [Hw]; · iexact Hw
    iempintro
  iexact Hd

theorem end_land (K : Names) (c : Dev nD) : Landing m K c 32 ⊢ iprop((∃ W, owes (c : Thread nD τ) 0 W) ∗ Landed m c) := by
  unfold Landing Landed
  rw [Ge_32, Lt_32, bigSep_empty]
  iintro ⟨-, HO, -, H⟩
  isplitl [HO] <;> iassumption

/-! ## The parts -/

theorem part6 (K : Names) (c : Dev nD) (v2 : BitVec 32) (v146 : BitVec 32) (c32_i32_77 : BitVec 32) (c0_i32 : BitVec 32) {α : Type} {Q : α → sProp 𝕄} {kk : (PUnit) → Prog (TpuEff nD τ sig (Elt F) Λ₀ .tc) α} :
    Sending m K c 1 ⊢ iprop((Sending m K c 2 -∗ WP c (kk ⟨⟩) Q) -∗ WP c (k0_part6 (F := F) xM (Memref.isWhole_whole _) wM (Memref.isWhole_whole _) oM (Memref.isWhole_whole _) aM (Memref.isWhole_whole _) cc0_scratch1 cc0_scratch2 c v2 v146 c32_i32_77 c0_i32 >>= kk) Q) := by
  rw [k0_part6_eq_skeleton]
  unfold k0_part6_skel
  simp only [semSignalWord, semWaitWord, Prog.lift, Prog.bind_op, Prog.bind_ret, Prog.pure_eq_ret, wp_deviceId]
  iintro H Hk
  iapply (step_send m K c 1 1 2 rfl rfl (by decide) (dev2_eq c) (off4_eq c) (off5_eq c 1) (sendSem_eq 1 _ rfl _) (recvSem_eq c _ (off3_eq c) _)) $$ H
  iintro H
  iapply Hk
  iexact H

theorem part7 (K : Names) (c : Dev nD) (v2 : BitVec 32) {α : Type} {Q : α → sProp 𝕄} {kk : (Σ' (v211 : BitVec 32) (v212 : BitVec 32), BitVec 1) → Prog (TpuEff nD τ sig (Elt F) Λ₀ .tc) α} :
    Sending m K c 2 ⊢ iprop((∀ a₁ a₂ a₃, Sending m K c 4 -∗ WP c (kk ⟨a₁, a₂, a₃⟩) Q) -∗ WP c (k0_part7 (F := F) xM (Memref.isWhole_whole _) wM (Memref.isWhole_whole _) oM (Memref.isWhole_whole _) aM (Memref.isWhole_whole _) cc0_scratch1 cc0_scratch2 c v2 >>= kk) Q) := by
  rw [k0_part7_eq_skeleton]
  unfold k0_part7_skel
  simp only [semSignalWord, semWaitWord, Prog.lift, Prog.bind_op, Prog.bind_ret, Prog.pure_eq_ret, wp_deviceId]
  iintro H Hk
  iapply (step_send m K c 2 2 3 rfl rfl (by decide) (dev3_eq c) (off4_eq c) (off5_eq c 2) (sendSem_eq 2 _ rfl _) (recvSem_eq c _ (off3_eq c) _)) $$ H
  iintro H
  iapply (step_send m K c 3 3 4 rfl rfl (by decide) (dev4_eq c) (off4_eq c) (off5_eq c 3) (sendSem_eq 3 _ rfl _) (recvSem_eq c _ (off3_eq c) _)) $$ H
  iintro H
  iapply Hk
  iexact H

theorem part8 (K : Names) (c : Dev nD) (v2 : BitVec 32) (v211 : BitVec 32) (v212 : BitVec 32) (v217 : BitVec 1) {α : Type} {Q : α → sProp 𝕄} {kk : (Σ' (v251 : BitVec 32) (c32_i32_141 : BitVec 32), BitVec 32) → Prog (TpuEff nD τ sig (Elt F) Λ₀ .tc) α} :
    Sending m K c 4 ⊢ iprop((∀ a₁ a₂ a₃, Sending m K c 6 -∗ WP c (kk ⟨a₁, a₂, a₃⟩) Q) -∗ WP c (k0_part8 (F := F) xM (Memref.isWhole_whole _) wM (Memref.isWhole_whole _) oM (Memref.isWhole_whole _) aM (Memref.isWhole_whole _) cc0_scratch1 cc0_scratch2 c v2 v211 v212 v217 >>= kk) Q) := by
  rw [k0_part8_eq_skeleton]
  unfold k0_part8_skel
  simp only [semSignalWord, semWaitWord, Prog.lift, Prog.bind_op, Prog.bind_ret, Prog.pure_eq_ret, wp_deviceId]
  iintro H Hk
  iapply (step_send m K c 4 4 5 rfl rfl (by decide) (dev5_eq c) (off4_eq c) (off5_eq c 4) (sendSem_eq 4 _ rfl _) (recvSem_eq c _ (off3_eq c) _)) $$ H
  iintro H
  iapply (step_send m K c 5 5 6 rfl rfl (by decide) (dev6_eq c) (off4_eq c) (off5_eq c 5) (sendSem_eq 5 _ rfl _) (recvSem_eq c _ (off3_eq c) _)) $$ H
  iintro H
  iapply Hk
  iexact H

theorem part9 (K : Names) (c : Dev nD) (v2 : BitVec 32) (v251 : BitVec 32) (c32_i32_141 : BitVec 32) (c0_i32_142 : BitVec 32) {α : Type} {Q : α → sProp 𝕄} {kk : (PUnit) → Prog (TpuEff nD τ sig (Elt F) Λ₀ .tc) α} :
    Sending m K c 6 ⊢ iprop((Sending m K c 7 -∗ WP c (kk ⟨⟩) Q) -∗ WP c (k0_part9 (F := F) xM (Memref.isWhole_whole _) wM (Memref.isWhole_whole _) oM (Memref.isWhole_whole _) aM (Memref.isWhole_whole _) cc0_scratch1 cc0_scratch2 c v2 v251 c32_i32_141 c0_i32_142 >>= kk) Q) := by
  rw [k0_part9_eq_skeleton]
  unfold k0_part9_skel
  simp only [semSignalWord, semWaitWord, Prog.lift, Prog.bind_op, Prog.bind_ret, Prog.pure_eq_ret, wp_deviceId]
  iintro H Hk
  iapply (step_send m K c 6 6 7 rfl rfl (by decide) (dev7_eq c) (off4_eq c) (off5_eq c 6) (sendSem_eq 6 _ rfl _) (recvSem_eq c _ (off3_eq c) _)) $$ H
  iintro H
  iapply Hk
  iexact H

theorem part10 (K : Names) (c : Dev nD) (v2 : BitVec 32) {α : Type} {Q : α → sProp 𝕄} {kk : (Σ' (v316 : BitVec 32) (v317 : BitVec 32), BitVec 1) → Prog (TpuEff nD τ sig (Elt F) Λ₀ .tc) α} :
    Sending m K c 7 ⊢ iprop((∀ a₁ a₂ a₃, Sending m K c 9 -∗ WP c (kk ⟨a₁, a₂, a₃⟩) Q) -∗ WP c (k0_part10 (F := F) xM (Memref.isWhole_whole _) wM (Memref.isWhole_whole _) oM (Memref.isWhole_whole _) aM (Memref.isWhole_whole _) cc0_scratch1 cc0_scratch2 c v2 >>= kk) Q) := by
  rw [k0_part10_eq_skeleton]
  unfold k0_part10_skel
  simp only [semSignalWord, semWaitWord, Prog.lift, Prog.bind_op, Prog.bind_ret, Prog.pure_eq_ret, wp_deviceId]
  iintro H Hk
  iapply (step_send m K c 7 7 8 rfl rfl (by decide) (dev8_eq c) (off4_eq c) (off5_eq c 7) (sendSem_eq 7 _ rfl _) (recvSem_eq c _ (off3_eq c) _)) $$ H
  iintro H
  iapply (step_send m K c 8 8 9 rfl rfl (by decide) (dev9_eq c) (off4_eq c) (off5_eq c 8) (sendSem_eq 8 _ rfl _) (recvSem_eq c _ (off3_eq c) _)) $$ H
  iintro H
  iapply Hk
  iexact H

theorem part11 (K : Names) (c : Dev nD) (v2 : BitVec 32) (v316 : BitVec 32) (v317 : BitVec 32) (v322 : BitVec 1) {α : Type} {Q : α → sProp 𝕄} {kk : (Σ' (v356 : BitVec 32) (c32_i32_206 : BitVec 32), BitVec 32) → Prog (TpuEff nD τ sig (Elt F) Λ₀ .tc) α} :
    Sending m K c 9 ⊢ iprop((∀ a₁ a₂ a₃, Sending m K c 11 -∗ WP c (kk ⟨a₁, a₂, a₃⟩) Q) -∗ WP c (k0_part11 (F := F) xM (Memref.isWhole_whole _) wM (Memref.isWhole_whole _) oM (Memref.isWhole_whole _) aM (Memref.isWhole_whole _) cc0_scratch1 cc0_scratch2 c v2 v316 v317 v322 >>= kk) Q) := by
  rw [k0_part11_eq_skeleton]
  unfold k0_part11_skel
  simp only [semSignalWord, semWaitWord, Prog.lift, Prog.bind_op, Prog.bind_ret, Prog.pure_eq_ret, wp_deviceId]
  iintro H Hk
  iapply (step_send m K c 9 9 10 rfl rfl (by decide) (dev10_eq c) (off4_eq c) (off5_eq c 9) (sendSem_eq 9 _ rfl _) (recvSem_eq c _ (off3_eq c) _)) $$ H
  iintro H
  iapply (step_send m K c 10 10 11 rfl rfl (by decide) (dev11_eq c) (off4_eq c) (off5_eq c 10) (sendSem_eq 10 _ rfl _) (recvSem_eq c _ (off3_eq c) _)) $$ H
  iintro H
  iapply Hk
  iexact H

theorem part12 (K : Names) (c : Dev nD) (v2 : BitVec 32) (v356 : BitVec 32) (c32_i32_206 : BitVec 32) (c0_i32_207 : BitVec 32) {α : Type} {Q : α → sProp 𝕄} {kk : (PUnit) → Prog (TpuEff nD τ sig (Elt F) Λ₀ .tc) α} :
    Sending m K c 11 ⊢ iprop((Sending m K c 12 -∗ WP c (kk ⟨⟩) Q) -∗ WP c (k0_part12 (F := F) xM (Memref.isWhole_whole _) wM (Memref.isWhole_whole _) oM (Memref.isWhole_whole _) aM (Memref.isWhole_whole _) cc0_scratch1 cc0_scratch2 c v2 v356 c32_i32_206 c0_i32_207 >>= kk) Q) := by
  rw [k0_part12_eq_skeleton]
  unfold k0_part12_skel
  simp only [semSignalWord, semWaitWord, Prog.lift, Prog.bind_op, Prog.bind_ret, Prog.pure_eq_ret, wp_deviceId]
  iintro H Hk
  iapply (step_send m K c 11 11 12 rfl rfl (by decide) (dev12_eq c) (off4_eq c) (off5_eq c 11) (sendSem_eq 11 _ rfl _) (recvSem_eq c _ (off3_eq c) _)) $$ H
  iintro H
  iapply Hk
  iexact H

theorem part13 (K : Names) (c : Dev nD) (v2 : BitVec 32) {α : Type} {Q : α → sProp 𝕄} {kk : (Σ' (v421 : BitVec 32) (v422 : BitVec 32), BitVec 1) → Prog (TpuEff nD τ sig (Elt F) Λ₀ .tc) α} :
    Sending m K c 12 ⊢ iprop((∀ a₁ a₂ a₃, Sending m K c 14 -∗ WP c (kk ⟨a₁, a₂, a₃⟩) Q) -∗ WP c (k0_part13 (F := F) xM (Memref.isWhole_whole _) wM (Memref.isWhole_whole _) oM (Memref.isWhole_whole _) aM (Memref.isWhole_whole _) cc0_scratch1 cc0_scratch2 c v2 >>= kk) Q) := by
  rw [k0_part13_eq_skeleton]
  unfold k0_part13_skel
  simp only [semSignalWord, semWaitWord, Prog.lift, Prog.bind_op, Prog.bind_ret, Prog.pure_eq_ret, wp_deviceId]
  iintro H Hk
  iapply (step_send m K c 12 12 13 rfl rfl (by decide) (dev13_eq c) (off4_eq c) (off5_eq c 12) (sendSem_eq 12 _ rfl _) (recvSem_eq c _ (off3_eq c) _)) $$ H
  iintro H
  iapply (step_send m K c 13 13 14 rfl rfl (by decide) (dev14_eq c) (off4_eq c) (off5_eq c 13) (sendSem_eq 13 _ rfl _) (recvSem_eq c _ (off3_eq c) _)) $$ H
  iintro H
  iapply Hk
  iexact H

theorem part14 (K : Names) (c : Dev nD) (v2 : BitVec 32) (v421 : BitVec 32) (v422 : BitVec 32) (v427 : BitVec 1) {α : Type} {Q : α → sProp 𝕄} {kk : (Σ' (v461 : BitVec 32) (c32_i32_271 : BitVec 32), BitVec 32) → Prog (TpuEff nD τ sig (Elt F) Λ₀ .tc) α} :
    Sending m K c 14 ⊢ iprop((∀ a₁ a₂ a₃, Sending m K c 16 -∗ WP c (kk ⟨a₁, a₂, a₃⟩) Q) -∗ WP c (k0_part14 (F := F) xM (Memref.isWhole_whole _) wM (Memref.isWhole_whole _) oM (Memref.isWhole_whole _) aM (Memref.isWhole_whole _) cc0_scratch1 cc0_scratch2 c v2 v421 v422 v427 >>= kk) Q) := by
  rw [k0_part14_eq_skeleton]
  unfold k0_part14_skel
  simp only [semSignalWord, semWaitWord, Prog.lift, Prog.bind_op, Prog.bind_ret, Prog.pure_eq_ret, wp_deviceId]
  iintro H Hk
  iapply (step_send m K c 14 14 15 rfl rfl (by decide) (dev15_eq c) (off4_eq c) (off5_eq c 14) (sendSem_eq 14 _ rfl _) (recvSem_eq c _ (off3_eq c) _)) $$ H
  iintro H
  iapply (step_send m K c 15 15 16 rfl rfl (by decide) (dev16_eq c) (off4_eq c) (off5_eq c 15) (sendSem_eq 15 _ rfl _) (recvSem_eq c _ (off3_eq c) _)) $$ H
  iintro H
  iapply Hk
  iexact H

theorem part15 (K : Names) (c : Dev nD) (v2 : BitVec 32) (v461 : BitVec 32) (c32_i32_271 : BitVec 32) (c0_i32_272 : BitVec 32) {α : Type} {Q : α → sProp 𝕄} {kk : (PUnit) → Prog (TpuEff nD τ sig (Elt F) Λ₀ .tc) α} :
    Sending m K c 16 ⊢ iprop((Sending m K c 17 -∗ WP c (kk ⟨⟩) Q) -∗ WP c (k0_part15 (F := F) xM (Memref.isWhole_whole _) wM (Memref.isWhole_whole _) oM (Memref.isWhole_whole _) aM (Memref.isWhole_whole _) cc0_scratch1 cc0_scratch2 c v2 v461 c32_i32_271 c0_i32_272 >>= kk) Q) := by
  rw [k0_part15_eq_skeleton]
  unfold k0_part15_skel
  simp only [semSignalWord, semWaitWord, Prog.lift, Prog.bind_op, Prog.bind_ret, Prog.pure_eq_ret, wp_deviceId]
  iintro H Hk
  iapply (step_send m K c 16 16 17 rfl rfl (by decide) (dev17_eq c) (off4_eq c) (off5_eq c 16) (sendSem_eq 16 _ rfl _) (recvSem_eq c _ (off3_eq c) _)) $$ H
  iintro H
  iapply Hk
  iexact H

theorem part16 (K : Names) (c : Dev nD) (v2 : BitVec 32) {α : Type} {Q : α → sProp 𝕄} {kk : (Σ' (v526 : BitVec 32) (v527 : BitVec 32), BitVec 1) → Prog (TpuEff nD τ sig (Elt F) Λ₀ .tc) α} :
    Sending m K c 17 ⊢ iprop((∀ a₁ a₂ a₃, Sending m K c 19 -∗ WP c (kk ⟨a₁, a₂, a₃⟩) Q) -∗ WP c (k0_part16 (F := F) xM (Memref.isWhole_whole _) wM (Memref.isWhole_whole _) oM (Memref.isWhole_whole _) aM (Memref.isWhole_whole _) cc0_scratch1 cc0_scratch2 c v2 >>= kk) Q) := by
  rw [k0_part16_eq_skeleton]
  unfold k0_part16_skel
  simp only [semSignalWord, semWaitWord, Prog.lift, Prog.bind_op, Prog.bind_ret, Prog.pure_eq_ret, wp_deviceId]
  iintro H Hk
  iapply (step_send m K c 17 17 18 rfl rfl (by decide) (dev18_eq c) (off4_eq c) (off5_eq c 17) (sendSem_eq 17 _ rfl _) (recvSem_eq c _ (off3_eq c) _)) $$ H
  iintro H
  iapply (step_send m K c 18 18 19 rfl rfl (by decide) (dev19_eq c) (off4_eq c) (off5_eq c 18) (sendSem_eq 18 _ rfl _) (recvSem_eq c _ (off3_eq c) _)) $$ H
  iintro H
  iapply Hk
  iexact H

theorem part17 (K : Names) (c : Dev nD) (v2 : BitVec 32) (v526 : BitVec 32) (v527 : BitVec 32) (v532 : BitVec 1) {α : Type} {Q : α → sProp 𝕄} {kk : (Σ' (v566 : BitVec 32) (c32_i32_336 : BitVec 32), BitVec 32) → Prog (TpuEff nD τ sig (Elt F) Λ₀ .tc) α} :
    Sending m K c 19 ⊢ iprop((∀ a₁ a₂ a₃, Sending m K c 21 -∗ WP c (kk ⟨a₁, a₂, a₃⟩) Q) -∗ WP c (k0_part17 (F := F) xM (Memref.isWhole_whole _) wM (Memref.isWhole_whole _) oM (Memref.isWhole_whole _) aM (Memref.isWhole_whole _) cc0_scratch1 cc0_scratch2 c v2 v526 v527 v532 >>= kk) Q) := by
  rw [k0_part17_eq_skeleton]
  unfold k0_part17_skel
  simp only [semSignalWord, semWaitWord, Prog.lift, Prog.bind_op, Prog.bind_ret, Prog.pure_eq_ret, wp_deviceId]
  iintro H Hk
  iapply (step_send m K c 19 19 20 rfl rfl (by decide) (dev20_eq c) (off4_eq c) (off5_eq c 19) (sendSem_eq 19 _ rfl _) (recvSem_eq c _ (off3_eq c) _)) $$ H
  iintro H
  iapply (step_send m K c 20 20 21 rfl rfl (by decide) (dev21_eq c) (off4_eq c) (off5_eq c 20) (sendSem_eq 20 _ rfl _) (recvSem_eq c _ (off3_eq c) _)) $$ H
  iintro H
  iapply Hk
  iexact H

theorem part18 (K : Names) (c : Dev nD) (v2 : BitVec 32) (v566 : BitVec 32) (c32_i32_336 : BitVec 32) (c0_i32_337 : BitVec 32) {α : Type} {Q : α → sProp 𝕄} {kk : (PUnit) → Prog (TpuEff nD τ sig (Elt F) Λ₀ .tc) α} :
    Sending m K c 21 ⊢ iprop((Sending m K c 22 -∗ WP c (kk ⟨⟩) Q) -∗ WP c (k0_part18 (F := F) xM (Memref.isWhole_whole _) wM (Memref.isWhole_whole _) oM (Memref.isWhole_whole _) aM (Memref.isWhole_whole _) cc0_scratch1 cc0_scratch2 c v2 v566 c32_i32_336 c0_i32_337 >>= kk) Q) := by
  rw [k0_part18_eq_skeleton]
  unfold k0_part18_skel
  simp only [semSignalWord, semWaitWord, Prog.lift, Prog.bind_op, Prog.bind_ret, Prog.pure_eq_ret, wp_deviceId]
  iintro H Hk
  iapply (step_send m K c 21 21 22 rfl rfl (by decide) (dev22_eq c) (off4_eq c) (off5_eq c 21) (sendSem_eq 21 _ rfl _) (recvSem_eq c _ (off3_eq c) _)) $$ H
  iintro H
  iapply Hk
  iexact H

theorem part19 (K : Names) (c : Dev nD) (v2 : BitVec 32) {α : Type} {Q : α → sProp 𝕄} {kk : (Σ' (v631 : BitVec 32) (v632 : BitVec 32), BitVec 1) → Prog (TpuEff nD τ sig (Elt F) Λ₀ .tc) α} :
    Sending m K c 22 ⊢ iprop((∀ a₁ a₂ a₃, Sending m K c 24 -∗ WP c (kk ⟨a₁, a₂, a₃⟩) Q) -∗ WP c (k0_part19 (F := F) xM (Memref.isWhole_whole _) wM (Memref.isWhole_whole _) oM (Memref.isWhole_whole _) aM (Memref.isWhole_whole _) cc0_scratch1 cc0_scratch2 c v2 >>= kk) Q) := by
  rw [k0_part19_eq_skeleton]
  unfold k0_part19_skel
  simp only [semSignalWord, semWaitWord, Prog.lift, Prog.bind_op, Prog.bind_ret, Prog.pure_eq_ret, wp_deviceId]
  iintro H Hk
  iapply (step_send m K c 22 22 23 rfl rfl (by decide) (dev23_eq c) (off4_eq c) (off5_eq c 22) (sendSem_eq 22 _ rfl _) (recvSem_eq c _ (off3_eq c) _)) $$ H
  iintro H
  iapply (step_send m K c 23 23 24 rfl rfl (by decide) (dev24_eq c) (off4_eq c) (off5_eq c 23) (sendSem_eq 23 _ rfl _) (recvSem_eq c _ (off3_eq c) _)) $$ H
  iintro H
  iapply Hk
  iexact H

theorem part20 (K : Names) (c : Dev nD) (v2 : BitVec 32) (v631 : BitVec 32) (v632 : BitVec 32) (v637 : BitVec 1) {α : Type} {Q : α → sProp 𝕄} {kk : (Σ' (v671 : BitVec 32) (c32_i32_401 : BitVec 32), BitVec 32) → Prog (TpuEff nD τ sig (Elt F) Λ₀ .tc) α} :
    Sending m K c 24 ⊢ iprop((∀ a₁ a₂ a₃, Sending m K c 26 -∗ WP c (kk ⟨a₁, a₂, a₃⟩) Q) -∗ WP c (k0_part20 (F := F) xM (Memref.isWhole_whole _) wM (Memref.isWhole_whole _) oM (Memref.isWhole_whole _) aM (Memref.isWhole_whole _) cc0_scratch1 cc0_scratch2 c v2 v631 v632 v637 >>= kk) Q) := by
  rw [k0_part20_eq_skeleton]
  unfold k0_part20_skel
  simp only [semSignalWord, semWaitWord, Prog.lift, Prog.bind_op, Prog.bind_ret, Prog.pure_eq_ret, wp_deviceId]
  iintro H Hk
  iapply (step_send m K c 24 24 25 rfl rfl (by decide) (dev25_eq c) (off4_eq c) (off5_eq c 24) (sendSem_eq 24 _ rfl _) (recvSem_eq c _ (off3_eq c) _)) $$ H
  iintro H
  iapply (step_send m K c 25 25 26 rfl rfl (by decide) (dev26_eq c) (off4_eq c) (off5_eq c 25) (sendSem_eq 25 _ rfl _) (recvSem_eq c _ (off3_eq c) _)) $$ H
  iintro H
  iapply Hk
  iexact H

theorem part21 (K : Names) (c : Dev nD) (v2 : BitVec 32) (v671 : BitVec 32) (c32_i32_401 : BitVec 32) (c0_i32_402 : BitVec 32) {α : Type} {Q : α → sProp 𝕄} {kk : (PUnit) → Prog (TpuEff nD τ sig (Elt F) Λ₀ .tc) α} :
    Sending m K c 26 ⊢ iprop((Sending m K c 27 -∗ WP c (kk ⟨⟩) Q) -∗ WP c (k0_part21 (F := F) xM (Memref.isWhole_whole _) wM (Memref.isWhole_whole _) oM (Memref.isWhole_whole _) aM (Memref.isWhole_whole _) cc0_scratch1 cc0_scratch2 c v2 v671 c32_i32_401 c0_i32_402 >>= kk) Q) := by
  rw [k0_part21_eq_skeleton]
  unfold k0_part21_skel
  simp only [semSignalWord, semWaitWord, Prog.lift, Prog.bind_op, Prog.bind_ret, Prog.pure_eq_ret, wp_deviceId]
  iintro H Hk
  iapply (step_send m K c 26 26 27 rfl rfl (by decide) (dev27_eq c) (off4_eq c) (off5_eq c 26) (sendSem_eq 26 _ rfl _) (recvSem_eq c _ (off3_eq c) _)) $$ H
  iintro H
  iapply Hk
  iexact H

theorem part22 (K : Names) (c : Dev nD) (v2 : BitVec 32) {α : Type} {Q : α → sProp 𝕄} {kk : (Σ' (v736 : BitVec 32) (v737 : BitVec 32), BitVec 1) → Prog (TpuEff nD τ sig (Elt F) Λ₀ .tc) α} :
    Sending m K c 27 ⊢ iprop((∀ a₁ a₂ a₃, Sending m K c 29 -∗ WP c (kk ⟨a₁, a₂, a₃⟩) Q) -∗ WP c (k0_part22 (F := F) xM (Memref.isWhole_whole _) wM (Memref.isWhole_whole _) oM (Memref.isWhole_whole _) aM (Memref.isWhole_whole _) cc0_scratch1 cc0_scratch2 c v2 >>= kk) Q) := by
  rw [k0_part22_eq_skeleton]
  unfold k0_part22_skel
  simp only [semSignalWord, semWaitWord, Prog.lift, Prog.bind_op, Prog.bind_ret, Prog.pure_eq_ret, wp_deviceId]
  iintro H Hk
  iapply (step_send m K c 27 27 28 rfl rfl (by decide) (dev28_eq c) (off4_eq c) (off5_eq c 27) (sendSem_eq 27 _ rfl _) (recvSem_eq c _ (off3_eq c) _)) $$ H
  iintro H
  iapply (step_send m K c 28 28 29 rfl rfl (by decide) (dev29_eq c) (off4_eq c) (off5_eq c 28) (sendSem_eq 28 _ rfl _) (recvSem_eq c _ (off3_eq c) _)) $$ H
  iintro H
  iapply Hk
  iexact H

theorem part23 (K : Names) (c : Dev nD) (v2 : BitVec 32) (v736 : BitVec 32) (v737 : BitVec 32) (v742 : BitVec 1) {α : Type} {Q : α → sProp 𝕄} {kk : (Σ' (v776 : BitVec 32) (c32_i32_467 : BitVec 32), BitVec 32) → Prog (TpuEff nD τ sig (Elt F) Λ₀ .tc) α} :
    Sending m K c 29 ⊢ iprop((∀ a₁ a₂ a₃, Sending m K c 31 -∗ WP c (kk ⟨a₁, a₂, a₃⟩) Q) -∗ WP c (k0_part23 (F := F) xM (Memref.isWhole_whole _) wM (Memref.isWhole_whole _) oM (Memref.isWhole_whole _) aM (Memref.isWhole_whole _) cc0_scratch1 cc0_scratch2 c v2 v736 v737 v742 >>= kk) Q) := by
  rw [k0_part23_eq_skeleton]
  unfold k0_part23_skel
  simp only [semSignalWord, semWaitWord, Prog.lift, Prog.bind_op, Prog.bind_ret, Prog.pure_eq_ret, wp_deviceId]
  iintro H Hk
  iapply (step_send m K c 29 29 30 rfl rfl (by decide) (dev30_eq c) (off4_eq c) (off5_eq c 29) (sendSem_eq 29 _ rfl _) (recvSem_eq c _ (off3_eq c) _)) $$ H
  iintro H
  iapply (step_send m K c 30 30 31 rfl rfl (by decide) (dev31_eq c) (off4_eq c) (off5_eq c 30) (sendSem_eq 30 _ rfl _) (recvSem_eq c _ (off3_eq c) _)) $$ H
  iintro H
  iapply Hk
  iexact H

theorem part24 (K : Names) (c : Dev nD) (v2 : BitVec 32) (v776 : BitVec 32) (c32_i32_467 : BitVec 32) (c0_i32_468 : BitVec 32) {α : Type} {Q : α → sProp 𝕄} {kk : (PUnit) → Prog (TpuEff nD τ sig (Elt F) Λ₀ .tc) α} :
    iprop(Sending m K c 31 ∗ Poised (F := F) c) ⊢ iprop((Draining m K c 3 -∗ WP c (kk ⟨⟩) Q) -∗ WP c (k0_part24 (F := F) xM (Memref.isWhole_whole _) wM (Memref.isWhole_whole _) oM (Memref.isWhole_whole _) aM (Memref.isWhole_whole _) cc0_scratch1 cc0_scratch2 c v2 v776 c32_i32_467 c0_i32_468 >>= kk) Q) := by
  rw [k0_part24_eq_skeleton]
  unfold k0_part24_skel
  simp only [semSignalWord, semWaitWord, Prog.lift, Prog.bind_op, Prog.bind_ret, Prog.pure_eq_ret, wp_deviceId]
  iintro ⟨H, Ho⟩ Hk
  iapply (step_send m K c 31 31 32 rfl rfl (by decide) (dev32_eq c) (off4_eq c) (off5_eq c 31) (sendSem_eq 31 _ rfl _) (recvSem_eq c _ (off3_eq c) _)) $$ H
  iintro H
  ihave H := (begin_drain m K c) $$ [H Ho]
  · isplitl [H]; · iexact H
    iexact Ho
  iapply (step_drain m K c 1 1 2 rfl rfl (by decide) (sendSem_eq 1 _ rfl _)) $$ H
  iintro H
  iapply (step_drain m K c 2 2 3 rfl rfl (by decide) (sendSem_eq 2 _ rfl _)) $$ H
  iintro H
  iapply Hk
  iexact H

end Cert.KernelIdeal.Exchange
-- ==== Proof.KernelIdeal.PartsDrain.lean ====
/- The parts of the body that wait for their own sends. -/
module

public import proofs.«01_k».proof.Proof.KernelIdeal.PartsSend

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ)

theorem part25 (K : Names) (c : Dev nD) {α : Type} {Q : α → sProp 𝕄} {kk : (PUnit) → Prog (TpuEff nD τ sig (Elt F) Λ₀ .tc) α} :
    Draining m K c 3 ⊢ iprop((Draining m K c 9 -∗ WP c (kk ⟨⟩) Q) -∗ WP c (k0_part25 (F := F) xM (Memref.isWhole_whole _) wM (Memref.isWhole_whole _) oM (Memref.isWhole_whole _) aM (Memref.isWhole_whole _) cc0_scratch1 cc0_scratch2 c >>= kk) Q) := by
  rw [k0_part25_eq_skeleton]
  unfold k0_part25_skel
  simp only [semSignalWord, semWaitWord, Prog.lift, Prog.bind_op, Prog.bind_ret, Prog.pure_eq_ret, wp_deviceId]
  iintro H Hk
  iapply (step_drain m K c 3 3 4 rfl rfl (by decide) (sendSem_eq 3 _ rfl _)) $$ H
  iintro H
  iapply (step_drain m K c 4 4 5 rfl rfl (by decide) (sendSem_eq 4 _ rfl _)) $$ H
  iintro H
  iapply (step_drain m K c 5 5 6 rfl rfl (by decide) (sendSem_eq 5 _ rfl _)) $$ H
  iintro H
  iapply (step_drain m K c 6 6 7 rfl rfl (by decide) (sendSem_eq 6 _ rfl _)) $$ H
  iintro H
  iapply (step_drain m K c 7 7 8 rfl rfl (by decide) (sendSem_eq 7 _ rfl _)) $$ H
  iintro H
  iapply (step_drain m K c 8 8 9 rfl rfl (by decide) (sendSem_eq 8 _ rfl _)) $$ H
  iintro H
  iapply Hk
  iexact H

theorem part26 (K : Names) (c : Dev nD) {α : Type} {Q : α → sProp 𝕄} {kk : (PUnit) → Prog (TpuEff nD τ sig (Elt F) Λ₀ .tc) α} :
    Draining m K c 9 ⊢ iprop((Draining m K c 14 -∗ WP c (kk ⟨⟩) Q) -∗ WP c (k0_part26 (F := F) xM (Memref.isWhole_whole _) wM (Memref.isWhole_whole _) oM (Memref.isWhole_whole _) aM (Memref.isWhole_whole _) cc0_scratch1 cc0_scratch2 c >>= kk) Q) := by
  rw [k0_part26_eq_skeleton]
  unfold k0_part26_skel
  simp only [semSignalWord, semWaitWord, Prog.lift, Prog.bind_op, Prog.bind_ret, Prog.pure_eq_ret, wp_deviceId]
  iintro H Hk
  iapply (step_drain m K c 9 9 10 rfl rfl (by decide) (sendSem_eq 9 _ rfl _)) $$ H
  iintro H
  iapply (step_drain m K c 10 10 11 rfl rfl (by decide) (sendSem_eq 10 _ rfl _)) $$ H
  iintro H
  iapply (step_drain m K c 11 11 12 rfl rfl (by decide) (sendSem_eq 11 _ rfl _)) $$ H
  iintro H
  iapply (step_drain m K c 12 12 13 rfl rfl (by decide) (sendSem_eq 12 _ rfl _)) $$ H
  iintro H
  iapply (step_drain m K c 13 13 14 rfl rfl (by decide) (sendSem_eq 13 _ rfl _)) $$ H
  iintro H
  iapply Hk
  iexact H

theorem part27 (K : Names) (c : Dev nD) {α : Type} {Q : α → sProp 𝕄} {kk : (PUnit) → Prog (TpuEff nD τ sig (Elt F) Λ₀ .tc) α} :
    Draining m K c 14 ⊢ iprop((Draining m K c 19 -∗ WP c (kk ⟨⟩) Q) -∗ WP c (k0_part27 (F := F) xM (Memref.isWhole_whole _) wM (Memref.isWhole_whole _) oM (Memref.isWhole_whole _) aM (Memref.isWhole_whole _) cc0_scratch1 cc0_scratch2 c >>= kk) Q) := by
  rw [k0_part27_eq_skeleton]
  unfold k0_part27_skel
  simp only [semSignalWord, semWaitWord, Prog.lift, Prog.bind_op, Prog.bind_ret, Prog.pure_eq_ret, wp_deviceId]
  iintro H Hk
  iapply (step_drain m K c 14 14 15 rfl rfl (by decide) (sendSem_eq 14 _ rfl _)) $$ H
  iintro H
  iapply (step_drain m K c 15 15 16 rfl rfl (by decide) (sendSem_eq 15 _ rfl _)) $$ H
  iintro H
  iapply (step_drain m K c 16 16 17 rfl rfl (by decide) (sendSem_eq 16 _ rfl _)) $$ H
  iintro H
  iapply (step_drain m K c 17 17 18 rfl rfl (by decide) (sendSem_eq 17 _ rfl _)) $$ H
  iintro H
  iapply (step_drain m K c 18 18 19 rfl rfl (by decide) (sendSem_eq 18 _ rfl _)) $$ H
  iintro H
  iapply Hk
  iexact H

theorem part28 (K : Names) (c : Dev nD) {α : Type} {Q : α → sProp 𝕄} {kk : (PUnit) → Prog (TpuEff nD τ sig (Elt F) Λ₀ .tc) α} :
    Draining m K c 19 ⊢ iprop((Draining m K c 25 -∗ WP c (kk ⟨⟩) Q) -∗ WP c (k0_part28 (F := F) xM (Memref.isWhole_whole _) wM (Memref.isWhole_whole _) oM (Memref.isWhole_whole _) aM (Memref.isWhole_whole _) cc0_scratch1 cc0_scratch2 c >>= kk) Q) := by
  rw [k0_part28_eq_skeleton]
  unfold k0_part28_skel
  simp only [semSignalWord, semWaitWord, Prog.lift, Prog.bind_op, Prog.bind_ret, Prog.pure_eq_ret, wp_deviceId]
  iintro H Hk
  iapply (step_drain m K c 19 19 20 rfl rfl (by decide) (sendSem_eq 19 _ rfl _)) $$ H
  iintro H
  iapply (step_drain m K c 20 20 21 rfl rfl (by decide) (sendSem_eq 20 _ rfl _)) $$ H
  iintro H
  iapply (step_drain m K c 21 21 22 rfl rfl (by decide) (sendSem_eq 21 _ rfl _)) $$ H
  iintro H
  iapply (step_drain m K c 22 22 23 rfl rfl (by decide) (sendSem_eq 22 _ rfl _)) $$ H
  iintro H
  iapply (step_drain m K c 23 23 24 rfl rfl (by decide) (sendSem_eq 23 _ rfl _)) $$ H
  iintro H
  iapply (step_drain m K c 24 24 25 rfl rfl (by decide) (sendSem_eq 24 _ rfl _)) $$ H
  iintro H
  iapply Hk
  iexact H

theorem part29 (K : Names) (c : Dev nD) {α : Type} {Q : α → sProp 𝕄} {kk : (PUnit) → Prog (TpuEff nD τ sig (Elt F) Λ₀ .tc) α} :
    Draining m K c 25 ⊢ iprop((Draining m K c 30 -∗ WP c (kk ⟨⟩) Q) -∗ WP c (k0_part29 (F := F) xM (Memref.isWhole_whole _) wM (Memref.isWhole_whole _) oM (Memref.isWhole_whole _) aM (Memref.isWhole_whole _) cc0_scratch1 cc0_scratch2 c >>= kk) Q) := by
  rw [k0_part29_eq_skeleton]
  unfold k0_part29_skel
  simp only [semSignalWord, semWaitWord, Prog.lift, Prog.bind_op, Prog.bind_ret, Prog.pure_eq_ret, wp_deviceId]
  iintro H Hk
  iapply (step_drain m K c 25 25 26 rfl rfl (by decide) (sendSem_eq 25 _ rfl _)) $$ H
  iintro H
  iapply (step_drain m K c 26 26 27 rfl rfl (by decide) (sendSem_eq 26 _ rfl _)) $$ H
  iintro H
  iapply (step_drain m K c 27 27 28 rfl rfl (by decide) (sendSem_eq 27 _ rfl _)) $$ H
  iintro H
  iapply (step_drain m K c 28 28 29 rfl rfl (by decide) (sendSem_eq 28 _ rfl _)) $$ H
  iintro H
  iapply (step_drain m K c 29 29 30 rfl rfl (by decide) (sendSem_eq 29 _ rfl _)) $$ H
  iintro H
  iapply Hk
  iexact H

theorem part30 (K : Names) (c : Dev nD) (v2 : BitVec 32) {α : Type} {Q : α → sProp 𝕄} {kk : (Σ' (v973 : BitVec 32) (v974 : BitVec 32) (v975 : BitVec 1) (v976 : BitVec 1), BitVec 32) → Prog (TpuEff nD τ sig (Elt F) Λ₀ .tc) α} :
    iprop(Draining m K c 30 ∗ Awaiting (F := F) c) ⊢ iprop((∀ a₁ a₂ a₃ a₄ a₅, (Landing m K c 2 ∗ Drained m c) -∗ WP c (kk ⟨a₁, a₂, a₃, a₄, a₅⟩) Q) -∗ WP c (k0_part30 (F := F) xM (Memref.isWhole_whole _) wM (Memref.isWhole_whole _) oM (Memref.isWhole_whole _) aM (Memref.isWhole_whole _) cc0_scratch1 cc0_scratch2 c v2 >>= kk) Q) := by
  rw [k0_part30_eq_skeleton]
  unfold k0_part30_skel
  simp only [semSignalWord, semWaitWord, Prog.lift, Prog.bind_op, Prog.bind_ret, Prog.pure_eq_ret, wp_deviceId]
  iintro ⟨H, Ho⟩ Hk
  iapply (step_drain m K c 30 30 31 rfl rfl (by decide) (sendSem_eq 30 _ rfl _)) $$ H
  iintro H
  iapply (step_drain m K c 31 31 32 rfl rfl (by decide) (sendSem_eq 31 _ rfl _)) $$ H
  iintro H
  ihave H := (begin_land m K c) $$ [H Ho]
  · isplitl [H]; · iexact H
    iexact Ho
  icases H with ⟨H, Hd⟩
  iapply (step_land m K c 1 1 2 rfl rfl (by decide) (recvSem_eq (src c 1) _ (off6_eq c 1) _)) $$ H
  iintro H
  iapply Hk
  isplitl [H]; · iexact H
  iexact Hd

end Cert.KernelIdeal.Exchange
-- ==== Proof.KernelIdeal.PartsLand.lean ====
/- The parts of the body that wait for the blocks sent to the device. -/
module

public import proofs.«01_k».proof.Proof.KernelIdeal.PartsSend

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ)

theorem part31 (K : Names) (c : Dev nD) (v2 : BitVec 32) (v973 : BitVec 32) (v974 : BitVec 32) (v975 : BitVec 1) (v976 : BitVec 1) (c0_i32_655 : BitVec 32) {α : Type} {Q : α → sProp 𝕄} {kk : (Σ' (v1009 : BitVec 32) (c32_i32_678 : BitVec 32), BitVec 1) → Prog (TpuEff nD τ sig (Elt F) Λ₀ .tc) α} :
    Landing m K c 2 ⊢ iprop((∀ a₁ a₂ a₃, Landing m K c 4 -∗ WP c (kk ⟨a₁, a₂, a₃⟩) Q) -∗ WP c (k0_part31 (F := F) xM (Memref.isWhole_whole _) wM (Memref.isWhole_whole _) oM (Memref.isWhole_whole _) aM (Memref.isWhole_whole _) cc0_scratch1 cc0_scratch2 c v2 v973 v974 v975 v976 c0_i32_655 >>= kk) Q) := by
  rw [k0_part31_eq_skeleton]
  unfold k0_part31_skel
  simp only [semSignalWord, semWaitWord, Prog.lift, Prog.bind_op, Prog.bind_ret, Prog.pure_eq_ret, wp_deviceId]
  iintro H Hk
  iapply (step_land m K c 2 2 3 rfl rfl (by decide) (recvSem_eq (src c 2) _ (off6_eq c 2) _)) $$ H
  iintro H
  iapply (step_land m K c 3 3 4 rfl rfl (by decide) (recvSem_eq (src c 3) _ (off6_eq c 3) _)) $$ H
  iintro H
  iapply Hk
  iexact H

theorem part32 (K : Names) (c : Dev nD) (v2 : BitVec 32) (v1009 : BitVec 32) (c32_i32_678 : BitVec 32) (v1010 : BitVec 1) {α : Type} {Q : α → sProp 𝕄} {kk : (PUnit) → Prog (TpuEff nD τ sig (Elt F) Λ₀ .tc) α} :
    Landing m K c 4 ⊢ iprop((Landing m K c 5 -∗ WP c (kk ⟨⟩) Q) -∗ WP c (k0_part32 (F := F) xM (Memref.isWhole_whole _) wM (Memref.isWhole_whole _) oM (Memref.isWhole_whole _) aM (Memref.isWhole_whole _) cc0_scratch1 cc0_scratch2 c v2 v1009 c32_i32_678 v1010 >>= kk) Q) := by
  rw [k0_part32_eq_skeleton]
  unfold k0_part32_skel
  simp only [semSignalWord, semWaitWord, Prog.lift, Prog.bind_op, Prog.bind_ret, Prog.pure_eq_ret, wp_deviceId]
  iintro H Hk
  iapply (step_land m K c 4 4 5 rfl rfl (by decide) (recvSem_eq (src c 4) _ (off6_eq c 4) _)) $$ H
  iintro H
  iapply Hk
  iexact H

theorem part33 (K : Names) (c : Dev nD) (v2 : BitVec 32) {α : Type} {Q : α → sProp 𝕄} {kk : (BitVec 32) → Prog (TpuEff nD τ sig (Elt F) Λ₀ .tc) α} :
    Landing m K c 5 ⊢ iprop((∀ a, Landing m K c 7 -∗ WP c (kk a) Q) -∗ WP c (k0_part33 (F := F) xM (Memref.isWhole_whole _) wM (Memref.isWhole_whole _) oM (Memref.isWhole_whole _) aM (Memref.isWhole_whole _) cc0_scratch1 cc0_scratch2 c v2 >>= kk) Q) := by
  rw [k0_part33_eq_skeleton]
  unfold k0_part33_skel
  simp only [semSignalWord, semWaitWord, Prog.lift, Prog.bind_op, Prog.bind_ret, Prog.pure_eq_ret, wp_deviceId]
  iintro H Hk
  iapply (step_land m K c 5 5 6 rfl rfl (by decide) (recvSem_eq (src c 5) _ (off6_eq c 5) _)) $$ H
  iintro H
  iapply (step_land m K c 6 6 7 rfl rfl (by decide) (recvSem_eq (src c 6) _ (off6_eq c 6) _)) $$ H
  iintro H
  iapply Hk
  iexact H

theorem part34 (K : Names) (c : Dev nD) (v2 : BitVec 32) (v1078 : BitVec 32) {α : Type} {Q : α → sProp 𝕄} {kk : (Σ' (v1106 : BitVec 32) (v1107 : BitVec 32) (v1108 : BitVec 1), BitVec 1) → Prog (TpuEff nD τ sig (Elt F) Λ₀ .tc) α} :
    Landing m K c 7 ⊢ iprop((∀ a₁ a₂ a₃ a₄, Landing m K c 9 -∗ WP c (kk ⟨a₁, a₂, a₃, a₄⟩) Q) -∗ WP c (k0_part34 (F := F) xM (Memref.isWhole_whole _) wM (Memref.isWhole_whole _) oM (Memref.isWhole_whole _) aM (Memref.isWhole_whole _) cc0_scratch1 cc0_scratch2 c v2 v1078 >>= kk) Q) := by
  rw [k0_part34_eq_skeleton]
  unfold k0_part34_skel
  simp only [semSignalWord, semWaitWord, Prog.lift, Prog.bind_op, Prog.bind_ret, Prog.pure_eq_ret, wp_deviceId]
  iintro H Hk
  iapply (step_land m K c 7 7 8 rfl rfl (by decide) (recvSem_eq (src c 7) _ (off6_eq c 7) _)) $$ H
  iintro H
  iapply (step_land m K c 8 8 9 rfl rfl (by decide) (recvSem_eq (src c 8) _ (off6_eq c 8) _)) $$ H
  iintro H
  iapply Hk
  iexact H

theorem part35 (K : Names) (c : Dev nD) (v2 : BitVec 32) (v1106 : BitVec 32) (v1107 : BitVec 32) (v1108 : BitVec 1) (v1111 : BitVec 1) {α : Type} {Q : α → sProp 𝕄} {kk : (Σ' (v1142 : BitVec 32), BitVec 32) → Prog (TpuEff nD τ sig (Elt F) Λ₀ .tc) α} :
    Landing m K c 9 ⊢ iprop((∀ a₁ a₂, Landing m K c 11 -∗ WP c (kk ⟨a₁, a₂⟩) Q) -∗ WP c (k0_part35 (F := F) xM (Memref.isWhole_whole _) wM (Memref.isWhole_whole _) oM (Memref.isWhole_whole _) aM (Memref.isWhole_whole _) cc0_scratch1 cc0_scratch2 c v2 v1106 v1107 v1108 v1111 >>= kk) Q) := by
  rw [k0_part35_eq_skeleton]
  unfold k0_part35_skel
  simp only [semSignalWord, semWaitWord, Prog.lift, Prog.bind_op, Prog.bind_ret, Prog.pure_eq_ret, wp_deviceId]
  iintro H Hk
  iapply (step_land m K c 9 9 10 rfl rfl (by decide) (recvSem_eq (src c 9) _ (off6_eq c 9) _)) $$ H
  iintro H
  iapply (step_land m K c 10 10 11 rfl rfl (by decide) (recvSem_eq (src c 10) _ (off6_eq c 10) _)) $$ H
  iintro H
  iapply Hk
  iexact H

theorem part36 (K : Names) (c : Dev nD) (v2 : BitVec 32) (v1142 : BitVec 32) (v1144 : BitVec 32) {α : Type} {Q : α → sProp 𝕄} {kk : (PUnit) → Prog (TpuEff nD τ sig (Elt F) Λ₀ .tc) α} :
    Landing m K c 11 ⊢ iprop((Landing m K c 12 -∗ WP c (kk ⟨⟩) Q) -∗ WP c (k0_part36 (F := F) xM (Memref.isWhole_whole _) wM (Memref.isWhole_whole _) oM (Memref.isWhole_whole _) aM (Memref.isWhole_whole _) cc0_scratch1 cc0_scratch2 c v2 v1142 v1144 >>= kk) Q) := by
  rw [k0_part36_eq_skeleton]
  unfold k0_part36_skel
  simp only [semSignalWord, semWaitWord, Prog.lift, Prog.bind_op, Prog.bind_ret, Prog.pure_eq_ret, wp_deviceId]
  iintro H Hk
  iapply (step_land m K c 11 11 12 rfl rfl (by decide) (recvSem_eq (src c 11) _ (off6_eq c 11) _)) $$ H
  iintro H
  iapply Hk
  iexact H

theorem part37 (K : Names) (c : Dev nD) (v2 : BitVec 32) {α : Type} {Q : α → sProp 𝕄} {kk : (PUnit) → Prog (TpuEff nD τ sig (Elt F) Λ₀ .tc) α} :
    Landing m K c 12 ⊢ iprop((Landing m K c 14 -∗ WP c (kk ⟨⟩) Q) -∗ WP c (k0_part37 (F := F) xM (Memref.isWhole_whole _) wM (Memref.isWhole_whole _) oM (Memref.isWhole_whole _) aM (Memref.isWhole_whole _) cc0_scratch1 cc0_scratch2 c v2 >>= kk) Q) := by
  rw [k0_part37_eq_skeleton]
  unfold k0_part37_skel
  simp only [semSignalWord, semWaitWord, Prog.lift, Prog.bind_op, Prog.bind_ret, Prog.pure_eq_ret, wp_deviceId]
  iintro H Hk
  iapply (step_land m K c 12 12 13 rfl rfl (by decide) (recvSem_eq (src c 12) _ (off6_eq c 12) _)) $$ H
  iintro H
  iapply (step_land m K c 13 13 14 rfl rfl (by decide) (recvSem_eq (src c 13) _ (off6_eq c 13) _)) $$ H
  iintro H
  iapply Hk
  iexact H

theorem part38 (K : Names) (c : Dev nD) (v2 : BitVec 32) {α : Type} {Q : α → sProp 𝕄} {kk : (Σ' (v1240 : BitVec 32) (v1245 : BitVec 1), BitVec 32) → Prog (TpuEff nD τ sig (Elt F) Λ₀ .tc) α} :
    Landing m K c 14 ⊢ iprop((∀ a₁ a₂ a₃, Landing m K c 16 -∗ WP c (kk ⟨a₁, a₂, a₃⟩) Q) -∗ WP c (k0_part38 (F := F) xM (Memref.isWhole_whole _) wM (Memref.isWhole_whole _) oM (Memref.isWhole_whole _) aM (Memref.isWhole_whole _) cc0_scratch1 cc0_scratch2 c v2 >>= kk) Q) := by
  rw [k0_part38_eq_skeleton]
  unfold k0_part38_skel
  simp only [semSignalWord, semWaitWord, Prog.lift, Prog.bind_op, Prog.bind_ret, Prog.pure_eq_ret, wp_deviceId]
  iintro H Hk
  iapply (step_land m K c 14 14 15 rfl rfl (by decide) (recvSem_eq (src c 14) _ (off6_eq c 14) _)) $$ H
  iintro H
  iapply (step_land m K c 15 15 16 rfl rfl (by decide) (recvSem_eq (src c 15) _ (off6_eq c 15) _)) $$ H
  iintro H
  iapply Hk
  iexact H

theorem part39 (K : Names) (c : Dev nD) (v2 : BitVec 32) (v1240 : BitVec 32) (v1245 : BitVec 1) (v1246 : BitVec 32) {α : Type} {Q : α → sProp 𝕄} {kk : (Σ' (v1277 : BitVec 32) (v1278 : BitVec 32), BitVec 32) → Prog (TpuEff nD τ sig (Elt F) Λ₀ .tc) α} :
    Landing m K c 16 ⊢ iprop((∀ a₁ a₂ a₃, Landing m K c 18 -∗ WP c (kk ⟨a₁, a₂, a₃⟩) Q) -∗ WP c (k0_part39 (F := F) xM (Memref.isWhole_whole _) wM (Memref.isWhole_whole _) oM (Memref.isWhole_whole _) aM (Memref.isWhole_whole _) cc0_scratch1 cc0_scratch2 c v2 v1240 v1245 v1246 >>= kk) Q) := by
  rw [k0_part39_eq_skeleton]
  unfold k0_part39_skel
  simp only [semSignalWord, semWaitWord, Prog.lift, Prog.bind_op, Prog.bind_ret, Prog.pure_eq_ret, wp_deviceId]
  iintro H Hk
  iapply (step_land m K c 16 16 17 rfl rfl (by decide) (recvSem_eq (src c 16) _ (off6_eq c 16) _)) $$ H
  iintro H
  iapply (step_land m K c 17 17 18 rfl rfl (by decide) (recvSem_eq (src c 17) _ (off6_eq c 17) _)) $$ H
  iintro H
  iapply Hk
  iexact H

theorem part40 (K : Names) (c : Dev nD) (v2 : BitVec 32) (v1277 : BitVec 32) (v1278 : BitVec 32) (c0_i32_877 : BitVec 32) {α : Type} {Q : α → sProp 𝕄} {kk : (BitVec 32) → Prog (TpuEff nD τ sig (Elt F) Λ₀ .tc) α} :
    Landing m K c 18 ⊢ iprop((∀ a, Landing m K c 20 -∗ WP c (kk a) Q) -∗ WP c (k0_part40 (F := F) xM (Memref.isWhole_whole _) wM (Memref.isWhole_whole _) oM (Memref.isWhole_whole _) aM (Memref.isWhole_whole _) cc0_scratch1 cc0_scratch2 c v2 v1277 v1278 c0_i32_877 >>= kk) Q) := by
  rw [k0_part40_eq_skeleton]
  unfold k0_part40_skel
  simp only [semSignalWord, semWaitWord, Prog.lift, Prog.bind_op, Prog.bind_ret, Prog.pure_eq_ret, wp_deviceId]
  iintro H Hk
  iapply (step_land m K c 18 18 19 rfl rfl (by decide) (recvSem_eq (src c 18) _ (off6_eq c 18) _)) $$ H
  iintro H
  iapply (step_land m K c 19 19 20 rfl rfl (by decide) (recvSem_eq (src c 19) _ (off6_eq c 19) _)) $$ H
  iintro H
  iapply Hk
  iexact H

theorem part41 (K : Names) (c : Dev nD) (v2 : BitVec 32) (c20_i32_901 : BitVec 32) {α : Type} {Q : α → sProp 𝕄} {kk : (PUnit) → Prog (TpuEff nD τ sig (Elt F) Λ₀ .tc) α} :
    Landing m K c 20 ⊢ iprop((Landing m K c 21 -∗ WP c (kk ⟨⟩) Q) -∗ WP c (k0_part41 (F := F) xM (Memref.isWhole_whole _) wM (Memref.isWhole_whole _) oM (Memref.isWhole_whole _) aM (Memref.isWhole_whole _) cc0_scratch1 cc0_scratch2 c v2 c20_i32_901 >>= kk) Q) := by
  rw [k0_part41_eq_skeleton]
  unfold k0_part41_skel
  simp only [semSignalWord, semWaitWord, Prog.lift, Prog.bind_op, Prog.bind_ret, Prog.pure_eq_ret, wp_deviceId]
  iintro H Hk
  iapply (step_land m K c 20 20 21 rfl rfl (by decide) (recvSem_eq (src c 20) _ (off6_eq c 20) _)) $$ H
  iintro H
  iapply Hk
  iexact H

theorem part42 (K : Names) (c : Dev nD) (v2 : BitVec 32) {α : Type} {Q : α → sProp 𝕄} {kk : (Σ' (v1380 : BitVec 32), BitVec 32) → Prog (TpuEff nD τ sig (Elt F) Λ₀ .tc) α} :
    Landing m K c 21 ⊢ iprop((∀ a₁ a₂, Landing m K c 23 -∗ WP c (kk ⟨a₁, a₂⟩) Q) -∗ WP c (k0_part42 (F := F) xM (Memref.isWhole_whole _) wM (Memref.isWhole_whole _) oM (Memref.isWhole_whole _) aM (Memref.isWhole_whole _) cc0_scratch1 cc0_scratch2 c v2 >>= kk) Q) := by
  rw [k0_part42_eq_skeleton]
  unfold k0_part42_skel
  simp only [semSignalWord, semWaitWord, Prog.lift, Prog.bind_op, Prog.bind_ret, Prog.pure_eq_ret, wp_deviceId]
  iintro H Hk
  iapply (step_land m K c 21 21 22 rfl rfl (by decide) (recvSem_eq (src c 21) _ (off6_eq c 21) _)) $$ H
  iintro H
  iapply (step_land m K c 22 22 23 rfl rfl (by decide) (recvSem_eq (src c 22) _ (off6_eq c 22) _)) $$ H
  iintro H
  iapply Hk
  iexact H

theorem part43 (K : Names) (c : Dev nD) (v2 : BitVec 32) (v1380 : BitVec 32) (c128_i32_950 : BitVec 32) {α : Type} {Q : α → sProp 𝕄} {kk : (Σ' (v1410 : BitVec 32) (v1411 : BitVec 32) (v1412 : BitVec 1), BitVec 32) → Prog (TpuEff nD τ sig (Elt F) Λ₀ .tc) α} :
    Landing m K c 23 ⊢ iprop((∀ a₁ a₂ a₃ a₄, Landing m K c 25 -∗ WP c (kk ⟨a₁, a₂, a₃, a₄⟩) Q) -∗ WP c (k0_part43 (F := F) xM (Memref.isWhole_whole _) wM (Memref.isWhole_whole _) oM (Memref.isWhole_whole _) aM (Memref.isWhole_whole _) cc0_scratch1 cc0_scratch2 c v2 v1380 c128_i32_950 >>= kk) Q) := by
  rw [k0_part43_eq_skeleton]
  unfold k0_part43_skel
  simp only [semSignalWord, semWaitWord, Prog.lift, Prog.bind_op, Prog.bind_ret, Prog.pure_eq_ret, wp_deviceId]
  iintro H Hk
  iapply (step_land m K c 23 23 24 rfl rfl (by decide) (recvSem_eq (src c 23) _ (off6_eq c 23) _)) $$ H
  iintro H
  iapply (step_land m K c 24 24 25 rfl rfl (by decide) (recvSem_eq (src c 24) _ (off6_eq c 24) _)) $$ H
  iintro H
  iapply Hk
  iexact H

theorem part44 (K : Names) (c : Dev nD) (v2 : BitVec 32) (v1410 : BitVec 32) (v1411 : BitVec 32) (v1412 : BitVec 1) (c0_i32_976 : BitVec 32) {α : Type} {Q : α → sProp 𝕄} {kk : (Σ' (v1446 : BitVec 32), BitVec 32) → Prog (TpuEff nD τ sig (Elt F) Λ₀ .tc) α} :
    Landing m K c 25 ⊢ iprop((∀ a₁ a₂, Landing m K c 27 -∗ WP c (kk ⟨a₁, a₂⟩) Q) -∗ WP c (k0_part44 (F := F) xM (Memref.isWhole_whole _) wM (Memref.isWhole_whole _) oM (Memref.isWhole_whole _) aM (Memref.isWhole_whole _) cc0_scratch1 cc0_scratch2 c v2 v1410 v1411 v1412 c0_i32_976 >>= kk) Q) := by
  rw [k0_part44_eq_skeleton]
  unfold k0_part44_skel
  simp only [semSignalWord, semWaitWord, Prog.lift, Prog.bind_op, Prog.bind_ret, Prog.pure_eq_ret, wp_deviceId]
  iintro H Hk
  iapply (step_land m K c 25 25 26 rfl rfl (by decide) (recvSem_eq (src c 25) _ (off6_eq c 25) _)) $$ H
  iintro H
  iapply (step_land m K c 26 26 27 rfl rfl (by decide) (recvSem_eq (src c 26) _ (off6_eq c 26) _)) $$ H
  iintro H
  iapply Hk
  iexact H

theorem part45 (K : Names) (c : Dev nD) (v2 : BitVec 32) (v1446 : BitVec 32) (c32_i32_1000 : BitVec 32) {α : Type} {Q : α → sProp 𝕄} {kk : (PUnit) → Prog (TpuEff nD τ sig (Elt F) Λ₀ .tc) α} :
    Landing m K c 27 ⊢ iprop((Landing m K c 28 -∗ WP c (kk ⟨⟩) Q) -∗ WP c (k0_part45 (F := F) xM (Memref.isWhole_whole _) wM (Memref.isWhole_whole _) oM (Memref.isWhole_whole _) aM (Memref.isWhole_whole _) cc0_scratch1 cc0_scratch2 c v2 v1446 c32_i32_1000 >>= kk) Q) := by
  rw [k0_part45_eq_skeleton]
  unfold k0_part45_skel
  simp only [semSignalWord, semWaitWord, Prog.lift, Prog.bind_op, Prog.bind_ret, Prog.pure_eq_ret, wp_deviceId]
  iintro H Hk
  iapply (step_land m K c 27 27 28 rfl rfl (by decide) (recvSem_eq (src c 27) _ (off6_eq c 27) _)) $$ H
  iintro H
  iapply Hk
  iexact H

theorem part46 (K : Names) (c : Dev nD) (v2 : BitVec 32) {α : Type} {Q : α → sProp 𝕄} {kk : (BitVec 32) → Prog (TpuEff nD τ sig (Elt F) Λ₀ .tc) α} :
    Landing m K c 28 ⊢ iprop((∀ a, Landing m K c 30 -∗ WP c (kk a) Q) -∗ WP c (k0_part46 (F := F) xM (Memref.isWhole_whole _) wM (Memref.isWhole_whole _) oM (Memref.isWhole_whole _) aM (Memref.isWhole_whole _) cc0_scratch1 cc0_scratch2 c v2 >>= kk) Q) := by
  rw [k0_part46_eq_skeleton]
  unfold k0_part46_skel
  simp only [semSignalWord, semWaitWord, Prog.lift, Prog.bind_op, Prog.bind_ret, Prog.pure_eq_ret, wp_deviceId]
  iintro H Hk
  iapply (step_land m K c 28 28 29 rfl rfl (by decide) (recvSem_eq (src c 28) _ (off6_eq c 28) _)) $$ H
  iintro H
  iapply (step_land m K c 29 29 30 rfl rfl (by decide) (recvSem_eq (src c 29) _ (off6_eq c 29) _)) $$ H
  iintro H
  iapply Hk
  iexact H

end Cert.KernelIdeal.Exchange
-- ==== Proof.KernelIdeal.Body.lean ====
/- The body of the kernel on one device, from its start state to the full result and every counter at zero. -/
module

public import proofs.«01_k».proof.Proof.KernelIdeal.PartsFill
public import proofs.«01_k».proof.Proof.KernelIdeal.PartsDrain
public import proofs.«01_k».proof.Proof.KernelIdeal.PartsLand

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ)

/-! ## The first part -/

/-- A whole staging buffer holding `X`. -/
abbrev held (c : Dev nD) (b : Ref sig .tc) (X : Buf (Elt F) ((c : Thread nD τ).loc b)) : sProp 𝕄 :=
  ((c : Thread nD τ).loc b) ↦{fullShare} X

/-- What the entry wait leaves. -/
def Entered (c : Dev nD) : sProp 𝕄 :=
  iprop((∃ W, owes (c : Thread nD τ) (recvOwe c 1) W) ∗ semVal (barCell c) 0 ∗ bigSep (Ge 1) fun k => iprop(∃ f, oPts (F := F) (tgt c k) c f))

omit [FloatOps F] in
theorem read_x (f : S128x4096.Idx → Elt F .bf16) (h) :
    (xM : Memref sig .tc .vmem S128x4096 .bf16).view.readAt (Elt F) (Rect.unit (s := S128x4096) ![0, 0] S128x4096.size h).toLoadRect f = f :=
  Memref.readAt_unit_zero (Elt F) cc0_stg0_0 (by funext a; match a with | ⟨0, _⟩ => rfl | ⟨1, _⟩ => rfl) _ f
omit [FloatOps F] in
theorem read_w (f : S4096x2048.Idx → Elt F .bf16) (h) :
    (wM : Memref sig .tc .vmem S4096x2048 .bf16).view.readAt (Elt F) (Rect.unit (s := S4096x2048) ![0, 0] S4096x2048.size h).toLoadRect f = f :=
  Memref.readAt_unit_zero (Elt F) cc0_stg1_0 (by funext a; match a with | ⟨0, _⟩ => rfl | ⟨1, _⟩ => rfl) _ f

/-- One trip of the entry loop is the step of its number plus one. -/
theorem trip (K : Names) (c : Dev nD) (t : Fin k0_t1_loop.trips) (acc : Unit) :
    Entering m K c (t.val + 1) ⊢ WP c (k0_t1_body (F := F) xM (Memref.isWhole_whole _) wM (Memref.isWhole_whole _) oM (Memref.isWhole_whole _) aM (Memref.isWhole_whole _) cc0_scratch1 cc0_scratch2 c (SemArray.scalar (sig.barrier 0 rfl)) t acc)
      fun _ => Entering m K c (t.val + 1 + 1) := by
  have ht : t.val < 31 := lt_of_lt_of_eq t.isLt trips_eq
  have hd : (⟨k0_dev1 c t, k0_dev1_lt c t⟩ : Dev nD) = tgt c ⟨t.val + 1, by omega⟩ := Fin.ext (dev1_eq c t)
  unfold k0_t1_body
  simp only [semSignalWord, Prog.lift, Prog.bind_op, Prog.bind_ret, Prog.pure_eq_ret]
  iintro H
  iapply (step_enter m K c ⟨t.val + 1, by omega⟩ (t.val + 1) (t.val + 1 + 1) rfl rfl (by intro h; exact absurd (congrArg Fin.val h) (Nat.succ_ne_zero _)) hd) $$ H
  iintro H
  unfold WP
  rw [wp_ret]
  imodintro
  iexact H

theorem part1 (K : Names) (c : Dev nD) {α : Type} {Q : α → sProp 𝕄}
    {kk : (Σ' (d0 : Dev nD) (v2 : BitVec 32) (v11 : FVec F S128x2048 .f32), FVec F S1x128x64 .f32) → Prog (TpuEff nD τ sig (Elt F) Λ₀ .tc) α} :
    iprop(Entering m K c 1 ∗ (cred (tallyAt (barCell c) () 31) ∗ atPos EX (barCell c) 0 ∅ 0 ∗ levAts levels lev)
        ∗ held c cc0_stg0_0 (xstg m c) ∗ held c cc0_stg1_0 (wstg m c) ∗ Filled m c 0)
      ⊢ iprop((∀ v, (Entered (F := F) c ∗ held c cc0_stg0_0 (xstg m c) ∗ held c cc0_stg1_0 (wstg m c) ∗ Filled m c 3)
            -∗ WP c (kk ⟨c, v, prod m c, k0_pay5 (xstg m c) (wstg m c)⟩) Q)
          -∗ WP c (k0_part1 (F := F) xM (Memref.isWhole_whole _) wM (Memref.isWhole_whole _) oM (Memref.isWhole_whole _) aM (Memref.isWhole_whole _) cc0_scratch1 cc0_scratch2 >>= kk) Q) := by
  rw [k0_part1_eq_skeleton]
  unfold k0_part1_skel
  simp only [semSignalWord, semWaitWord, Prog.lift, Prog.bind_op, Prog.bind_ret, Prog.pure_eq_ret, wp_deviceId, Prog.bind_assoc]
  iintro ⟨HE, Hb, Hx, Hw, HF⟩ Hk
  iapply (Scf.wp_for_bind _ _ _ _ _ _ _ _ _ (fun t _ => Entering m K c (t + 1)) (trip m K c)) $$ HE
  iintro %_ HE
  ihave HE := (Entails.of_eq (congrArg (fun n => Entering m K c (n + 1)) trips_eq)) $$ HE
  iapply (step_entered m K c) $$ [HE Hb]
  · isplitl [HE]; · iexact HE
    iexact Hb
  iintro HE
  iapply (wp_load 𝒱₀ (c : Thread nD τ) none Set.univ (m := xM) (Finset.subset_univ _)) $$ Hx
  iintro Hx
  iapply (wp_load 𝒱₀ (c : Thread nD τ) none Set.univ (m := wM) (Finset.subset_univ _)) $$ Hw
  iintro Hw
  rw [read_x, read_w]
  iapply (step_peek m c 0) $$ HF
  iintro %_ HF
  iapply (step_fill m c 0 0 1 rfl rfl rfl (piece m c 0 _ rfl slices_S128x2048_o0_0_S128x64 shapeCasts_S128x64_S1x128x64)) $$ HF
  iintro HF
  iapply (step_peek m c 1) $$ HF
  iintro %_ HF
  iapply (step_fill m c 1 1 2 rfl rfl rfl (piece m c 1 _ rfl slices_S128x2048_o0_64_S128x64 shapeCasts_S128x64_S1x128x64)) $$ HF
  iintro HF
  iapply (step_peek m c 2) $$ HF
  iintro %_ HF
  iapply (step_fill m c 2 2 3 rfl rfl rfl (piece m c 2 _ rfl slices_S128x2048_o0_128_S128x64 shapeCasts_S128x64_S1x128x64)) $$ HF
  iintro HF
  iapply (step_peek m c 3) $$ HF
  iintro %_ HF
  rw [show k0_pay1 (xstg m c) (wstg m c) = prod m c from rfl]
  iapply Hk
  isplitl [HE]; · unfold Entered; iexact HE
  isplitl [Hx]; · iexact Hx
  isplitl [Hw]; · iexact Hw
  iexact HF

/-! ## The blocks of the whole buffers -/

omit [FloatOps F] in
theorem at_zero (Φ : Fin 32 → sProp 𝕄) : bigSep Finset.univ Φ = iprop(Φ 0 ∗ bigSep (Ge 1) Φ) := by
  rw [univ_eq_Ge, conj_insert zero_not_mem_Ge]

omit [FloatOps F] in
theorem out_blocks (c : Dev nD) (f : Buf (Elt F) ((c : Thread nD τ).loc cc0_stg2_0)) :
    ((((c : Thread nD τ).loc cc0_stg2_0) ↦{fullShare} f) : sProp 𝕄) = bigSep Finset.univ fun s => oPts c s f := by
  have h := pointsTo_biUnion (Ix := Unit) (Name := ℕ) (U := UA) (Lvl := ℕ) (ℓ := (c : Thread nD τ).loc cc0_stg2_0) (q := fullShare) (f := f) Finset.univ outRows outRows_disjoint
  rw [outRows_cover] at h
  exact h
omit [FloatOps F] in
theorem acc_blocks (c : Dev nD) (f : Buf (Elt F) ((c : Thread nD τ).loc cc0_scratch0)) :
    ((((c : Thread nD τ).loc cc0_scratch0) ↦{fullShare} f) : sProp 𝕄) = bigSep Finset.univ fun j => aPts c j f := by
  have h := pointsTo_biUnion (Ix := Unit) (Name := ℕ) (U := UA) (Lvl := ℕ) (ℓ := (c : Thread nD τ).loc cc0_scratch0) (q := fullShare) (f := f) Finset.univ accRows accRows_disjoint
  rw [accRows_cover] at h
  exact h

omit [FloatOps F] in
/-- By the step each block is handed over in. -/
theorem out_by_tgt (c : Dev nD) (f : Buf (Elt F) ((c : Thread nD τ).loc cc0_stg2_0)) :
    ((((c : Thread nD τ).loc cc0_stg2_0) ↦{fullShare} f) : sProp 𝕄) = iprop(oPts c c f ∗ bigSep (Ge 1) fun k => oPts c (tgt c k) f) := by
  rw [out_blocks, bigSep_univ_equiv (tgtEquiv c), at_zero]
  show iprop(oPts c (tgt c 0) f ∗ _) = _
  rw [tgt_zero]; rfl
omit [FloatOps F] in
/-- By the step each block arrives in. -/
theorem out_by_src (c : Dev nD) (f : Buf (Elt F) ((c : Thread nD τ).loc cc0_stg2_0)) :
    ((((c : Thread nD τ).loc cc0_stg2_0) ↦{fullShare} f) : sProp 𝕄) = iprop(oPts c c f ∗ bigSep (Ge 1) fun k => oPts c (src c k) f) := by
  rw [out_blocks, bigSep_univ_equiv (srcEquiv c), at_zero]
  show iprop(oPts c (src c 0) f ∗ _) = _
  rw [src_zero]; rfl
omit [FloatOps F] in
/-- By the step each block leaves in. -/
theorem acc_by_tgt (c : Dev nD) (f : Buf (Elt F) ((c : Thread nD τ).loc cc0_scratch0)) :
    ((((c : Thread nD τ).loc cc0_scratch0) ↦{fullShare} f) : sProp 𝕄) = iprop(aPts c c f ∗ bigSep (Ge 1) fun k => aPts c (tgt c k) f) := by
  rw [acc_blocks, bigSep_univ_equiv (tgtEquiv c), at_zero]
  show iprop(aPts c (tgt c 0) f ∗ _) = _
  rw [tgt_zero]; rfl

/-! ## The body -/

/-- The duties device `c` pays in step `k`. -/
def tokens (c : Dev nD) (k : Fin 32) : sProp 𝕄 :=
  iprop(dutyTok EX (barCell (tgt c k)) 0 c ∗ dutyTok EX (recvCell (tgt c k) c) 0 0 ∗ dutyTok EX (sendCell c k) 0 0)
/-- What device `c` holds of the protocol. -/
def ghost (K : Names) (c : Dev nD) : sProp 𝕄 :=
  iprop(known m K ∗ atPos EX (barCell c) 0 ∅ 0 ∗ (bigSep Finset.univ fun k => atPos EX (sendCell c k) 0 ∅ 0)
    ∗ (bigSep Finset.univ fun s => atPos EX (recvCell c s) 0 ∅ 0) ∗ bigSep Finset.univ (tokens (F := F) c))
/-- The credit it starts with, and the levels. -/
def startCred (c : Dev nD) : sProp 𝕄 :=
  iprop(cred (tallyAt (barCell c) () 31) ∗ (bigSep (Ge 1) fun k => cred (tallyAt (recvCell c (src c k)) () N)) ∗ levAts levels lev)
/-- Its counters at zero. -/
def zeros (c : Dev nD) : sProp 𝕄 :=
  iprop(semVal (barCell c) 0 ∗ (bigSep Finset.univ fun k => semVal (sendCell c k) 0) ∗ bigSep Finset.univ fun s => semVal (recvCell c s) 0)

/-- The two cells without duties close at the start. -/
theorem close_idle (K : Names) (c : Dev nD) :
    iprop(known m K ∗ atPos EX (sendCell c 0) 0 ∅ 0 ∗ atPos EX (recvCell c c) 0 ∅ 0)
      ⊢ iprop(|={Set.univ}=> (semVal (sendCell c 0) 0 ∗ semVal (recvCell c c) 0)) := by
  iintro ⟨#HK, Hs, Hr⟩
  ihave #HIs := (known_inv m K (c, sendIx 0)) $$ HK
  ihave #HIr := (known_inv m K (c, recvIx c)) $$ HK
  imod (Rounds.cell_close EX (sched m) (Set.mem_univ (K (c, sendIx 0))) (fun h => h) (R := 0) (duties_send0_all m c)) $$ [Hs] with Hz
  · isplitr; · iexact HIs
    iexact Hs
  imod (Rounds.cell_close EX (sched m) (Set.mem_univ (K (c, recvIx c))) (fun h => h) (R := 0) (duties_recv_self_all m c)) $$ [Hr] with Hz'
  · isplitr; · iexact HIr
    iexact Hr
  imodintro
  isplitl [Hz] <;> iassumption

/-- The ghost state taken apart by steps. -/
theorem ghost_steps (K : Names) (c : Dev nD) :
    ghost m K c ⊢ iprop(known m K ∗ atPos EX (barCell c) 0 ∅ 0 ∗ (atPos EX (sendCell c 0) 0 ∅ 0 ∗ atPos EX (recvCell c c) 0 ∅ 0)
      ∗ Poised (F := F) c ∗ (bigSep (Ge 1) fun k => atPos EX (recvCell c (src c k)) 0 ∅ 0)
      ∗ (bigSep (Ge 1) fun k => dutyTok EX (barCell (tgt c k)) 0 c) ∗ (bigSep (Ge 1) fun k => dutyTok EX (recvCell (tgt c k) c) 0 0)
      ∗ bigSep (Ge 1) fun k => dutyTok EX (sendCell c k) 0 0) := by
  have hr : (bigSep Finset.univ fun s => (atPos EX (recvCell c s) 0 ∅ 0 : sProp 𝕄))
      = iprop(atPos EX (recvCell c c) 0 ∅ 0 ∗ bigSep (Ge 1) fun k => atPos EX (recvCell c (src c k)) 0 ∅ 0) := by
    rw [bigSep_univ_equiv (srcEquiv c), at_zero]
    show iprop(atPos EX (recvCell c (src c 0)) 0 ∅ 0 ∗ _) = _
    rw [src_zero]; rfl
  have ht : bigSep (Ge 1) (tokens (F := F) c) = iprop((bigSep (Ge 1) fun k => dutyTok EX (barCell (tgt c k)) 0 c)
      ∗ (bigSep (Ge 1) fun k => dutyTok EX (recvCell (tgt c k) c) 0 0) ∗ bigSep (Ge 1) fun k => dutyTok EX (sendCell c k) 0 0) := by
    unfold tokens; rw [bigSep_sep', bigSep_sep']
  unfold ghost Poised
  rw [hr, at_zero fun k => atPos EX (sendCell c k) 0 ∅ 0, at_zero (tokens (F := F) c), ht]
  iintro ⟨HK, Hb, ⟨Hs0, Hs⟩, ⟨Hr0, Hr⟩, -, H1, H2, H3⟩
  isplitl [HK]; · iexact HK
  isplitl [Hb]; · iexact Hb
  isplitl [Hs0 Hr0]; · isplitl [Hs0] <;> iassumption
  isplitl [Hs]; · iexact Hs
  isplitl [Hr]; · iexact Hr
  isplitl [H1]; · iexact H1
  isplitl [H2] <;> iassumption

/-- The blocks back in one piece, and every counter at zero. -/
theorem finish (c : Dev nD) :
    iprop(Landed m c ∗ Drained m c ∗ (aPts c c (accVal m c) ∗ oPts c c (outVal m c)) ∗ semVal (barCell c) 0 ∗ (semVal (sendCell c 0) 0 ∗ semVal (recvCell c c) 0))
      ⊢ iprop(held c cc0_scratch0 (accVal m c) ∗ held c cc0_stg2_0 (outVal m c) ∗ zeros (F := F) c) := by
  have hr : (bigSep Finset.univ fun s => (semVal (recvCell c s) 0 : sProp 𝕄)) = iprop(semVal (recvCell c c) 0 ∗ bigSep (Ge 1) fun k => semVal (recvCell c (src c k)) 0) := by
    rw [bigSep_univ_equiv (srcEquiv c), at_zero]
    show iprop(semVal (recvCell c (src c 0)) 0 ∗ _) = _
    rw [src_zero]; rfl
  unfold Landed Drained held zeros
  rw [bigSep_sep', bigSep_sep', hr, at_zero fun k => semVal (sendCell c k) 0]
  show _ ⊢ iprop(((((c : Thread nD τ).loc cc0_scratch0) ↦{fullShare} accVal m c)) ∗ ((((c : Thread nD τ).loc cc0_stg2_0) ↦{fullShare} outVal m c)) ∗ _)
  rw [out_by_src, acc_by_tgt]
  iintro ⟨⟨Ho, Hr⟩, ⟨Ha, Hs⟩, ⟨Ha0, Ho0⟩, Hb, ⟨Hs0, Hr0⟩⟩
  isplitl [Ha Ha0]; · isplitl [Ha0] <;> iassumption
  isplitl [Ho Ho0]; · isplitl [Ho0] <;> iassumption
  isplitl [Hb]; · iexact Hb
  isplitl [Hs Hs0]
  · isplitl [Hs0] <;> iassumption
  isplitl [Hr0] <;> iassumption

/-- The start of the entry phase. -/
theorem begin_enter (K : Names) (c : Dev nD) (f : Buf (Elt F) ((c : Thread nD τ).loc cc0_stg2_0)) :
    iprop(known m K ∗ (∃ W, owes (c : Thread nD τ) (oweAll c) W) ∗ (bigSep (Ge 1) fun k => dutyTok EX (barCell (tgt c k)) 0 c) ∗ bigSep (Ge 1) fun k => oPts c (tgt c k) f)
      ⊢ Entering m K c 1 := by
  have h : (bigSep (Ge 1) fun k => (oPts c (tgt c k) f : sProp 𝕄)) ⊢ bigSep (Ge 1) fun k => iprop(∃ f, oPts (F := F) c (tgt c k) f) :=
    bigSep_mono fun k _ => show (oPts c (tgt c k) f : sProp 𝕄) ⊢ iprop(∃ f, oPts (F := F) c (tgt c k) f) from by
      iintro H; iexists f; iexact H
  unfold Entering enterTodo
  rw [bigSep_sep']
  iintro ⟨HK, HO, Ht, Ho⟩
  ihave Ho := h $$ Ho
  isplitl [HK]; · iexact HK
  isplitl [HO]; · iexact HO
  isplitl [Ht] <;> iassumption

/-- The start of the transfers. -/
theorem begin_send (K : Names) (c : Dev nD) :
    iprop(known m K ∗ (∃ W, owes (c : Thread nD τ) (recvOwe c 1) W) ∗ (bigSep (Ge 1) fun k => aPts c (tgt c k) (accVal m c))
        ∗ (bigSep (Ge 1) fun k => iprop(∃ f, oPts (F := F) (tgt c k) c f)) ∗ (bigSep (Ge 1) fun k => dutyTok EX (recvCell (tgt c k) c) 0 0)
        ∗ bigSep (Ge 1) fun k => dutyTok EX (sendCell c k) 0 0)
      ⊢ Sending m K c 1 := by
  unfold Sending sendTodo
  rw [bigSep_sep', bigSep_sep', bigSep_sep', Lt_1, bigSep_empty]
  iintro ⟨HK, HO, Ha, Ho, H1, H2⟩
  isplitl [HK]; · iexact HK
  isplitl [HO]; · iexact HO
  isplitl
  · isplitl [Ha]; · iexact Ha
    isplitl [Ho]; · iexact Ho
    isplitl [H1] <;> iassumption
  iempintro

/-- What the body starts from, and what it ends in. -/
def bodyStart (K : Names) (c : Dev nD) : sProp 𝕄 :=
  iprop(ghost m K c ∗ startCred (F := F) c ∗ (∃ f, held (F := F) c cc0_scratch0 f) ∗ (∃ W, owes (c : Thread nD τ) (oweAll c) W)
    ∗ held c cc0_stg0_0 (xstg m c) ∗ held c cc0_stg1_0 (wstg m c) ∗ ∃ f, held (F := F) c cc0_stg2_0 f)
def bodyEnd (c : Dev nD) : sProp 𝕄 :=
  iprop(held c cc0_scratch0 (accVal m c) ∗ zeros (F := F) c ∗ (∃ W, owes (c : Thread nD τ) 0 W)
    ∗ held c cc0_stg0_0 (xstg m c) ∗ held c cc0_stg1_0 (wstg m c) ∗ held c cc0_stg2_0 (outVal m c))

set_option maxHeartbeats 1600000 in
theorem body_runs (K : Names) (c : Dev nD) (Q : PUnit → sProp 𝕄) :
    iprop(bodyStart m K c ∗ (bodyEnd m c -∗ Q ⟨⟩)) ⊢ WP c (cc0_body (F := F) xM (Memref.isWhole_whole _) wM (Memref.isWhole_whole _) oM (Memref.isWhole_whole _) aM (Memref.isWhole_whole _) cc0_scratch1 cc0_scratch2) Q := by
  rw [cc0_body_eq_skeleton]
  unfold cc0_body_skel
  rw [k0_part47_eq_skeleton]
  unfold k0_part47_skel
  simp only [Prog.lift, Prog.bind_op, Prog.bind_ret, Prog.pure_eq_ret, Prog.bind_assoc]
  unfold bodyStart startCred
  iintro ⟨⟨Hg, ⟨Hcb, Hcr, #Hlev⟩, ⟨%fa, Ha⟩, HO, Hx, Hw, ⟨%fo, Ho⟩⟩, Hk⟩
  ihave Hg := (ghost_steps m K c) $$ Hg
  icases Hg with ⟨#HK, Hab, Hidle, Hpo, Har, Htb, Htr, Hts⟩
  imod (close_idle m K c) $$ [Hidle] with Hz
  · isplitr; · iexact HK
    iexact Hidle
  ihave Ho := (Entails.of_eq (out_by_tgt c fo)) $$ Ho
  icases Ho with ⟨Ho0, Ho⟩
  ihave HE := (begin_enter m K c fo) $$ [HO Htb Ho]
  · isplitr; · iexact HK
    isplitl [HO]; · iexact HO
    isplitl [Htb] <;> iassumption
  iapply (part1 m K c) $$ [HE Hcb Hab Hx Hw Ha]
  · isplitl [HE]; · iexact HE
    isplitl [Hcb Hab]
    · isplitl [Hcb]; · iexact Hcb
      isplitl [Hab]; · iexact Hab
      iexact Hlev
    isplitl [Hx]; · iexact Hx
    isplitl [Hw]; · iexact Hw
    unfold Filled
    iexists fa
    isplitr; · (ipureintro; exact fun i hi => absurd hi (Nat.not_lt_zero _))
    iexact Ha
  unfold Entered
  iintro %v2 ⟨⟨HO, Hzb, Hland⟩, Hx, Hw, H⟩
  iapply (part2 m c) $$ H
  iintro H
  iapply (part3 m c) $$ H
  iintro H
  iapply (part4 m c) $$ H
  iintro H
  iapply (part5 m c) $$ [H Ho0]
  · isplitl [H]; · iexact H
    iexists fo; iexact Ho0
  iintro %_ %_ %_ ⟨Ha, Ho0⟩
  ihave Ha := (Entails.of_eq (acc_by_tgt c (accVal m c))) $$ Ha
  icases Ha with ⟨Ha0, Ha⟩
  ihave H := (begin_send m K c) $$ [HO Ha Hland Htr Hts]
  · isplitr; · iexact HK
    isplitl [HO]; · iexact HO
    isplitl [Ha]; · iexact Ha
    isplitl [Hland]; · iexact Hland
    isplitl [Htr] <;> iassumption
  iapply (part6 m K c) $$ H
  iintro H
  iapply (part7 m K c) $$ H
  iintro %_ %_ %_ H
  iapply (part8 m K c) $$ H
  iintro %_ %_ %_ H
  iapply (part9 m K c) $$ H
  iintro H
  iapply (part10 m K c) $$ H
  iintro %_ %_ %_ H
  iapply (part11 m K c) $$ H
  iintro %_ %_ %_ H
  iapply (part12 m K c) $$ H
  iintro H
  iapply (part13 m K c) $$ H
  iintro %_ %_ %_ H
  iapply (part14 m K c) $$ H
  iintro %_ %_ %_ H
  iapply (part15 m K c) $$ H
  iintro H
  iapply (part16 m K c) $$ H
  iintro %_ %_ %_ H
  iapply (part17 m K c) $$ H
  iintro %_ %_ %_ H
  iapply (part18 m K c) $$ H
  iintro H
  iapply (part19 m K c) $$ H
  iintro %_ %_ %_ H
  iapply (part20 m K c) $$ H
  iintro %_ %_ %_ H
  iapply (part21 m K c) $$ H
  iintro H
  iapply (part22 m K c) $$ H
  iintro %_ %_ %_ H
  iapply (part23 m K c) $$ H
  iintro %_ %_ %_ H
  iapply (part24 m K c) $$ [H Hpo]
  · isplitl [H] <;> iassumption
  iintro H
  iapply (part25 m K c) $$ H
  iintro H
  iapply (part26 m K c) $$ H
  iintro H
  iapply (part27 m K c) $$ H
  iintro H
  iapply (part28 m K c) $$ H
  iintro H
  iapply (part29 m K c) $$ H
  iintro H
  iapply (part30 m K c) $$ [H Hcr Har]
  · isplitl [H]; · iexact H
    unfold Awaiting
    rw [bigSep_sep']
    isplitl [Hcr] <;> iassumption
  iintro %_ %_ %_ %_ %_ ⟨H, Hd⟩
  iapply (part31 m K c) $$ H
  iintro %_ %_ %_ H
  iapply (part32 m K c) $$ H
  iintro H
  iapply (part33 m K c) $$ H
  iintro %_ H
  iapply (part34 m K c) $$ H
  iintro %_ %_ %_ %_ H
  iapply (part35 m K c) $$ H
  iintro %_ %_ H
  iapply (part36 m K c) $$ H
  iintro H
  iapply (part37 m K c) $$ H
  iintro H
  iapply (part38 m K c) $$ H
  iintro %_ %_ %_ H
  iapply (part39 m K c) $$ H
  iintro %_ %_ %_ H
  iapply (part40 m K c) $$ H
  iintro %_ H
  iapply (part41 m K c) $$ H
  iintro H
  iapply (part42 m K c) $$ H
  iintro %_ %_ H
  iapply (part43 m K c) $$ H
  iintro %_ %_ %_ %_ H
  iapply (part44 m K c) $$ H
  iintro %_ %_ H
  iapply (part45 m K c) $$ H
  iintro H
  iapply (part46 m K c) $$ H
  iintro %_ H
  iapply (step_land m K c 30 30 31 rfl rfl (by decide) (recvSem_eq (src c 30) _ (off6_eq c 30) _)) $$ H
  iintro H
  iapply (step_land m K c 31 31 32 rfl rfl (by decide) (recvSem_eq (src c 31) _ (off6_eq c 31) _)) $$ H
  iintro H
  ihave H := (end_land m K c) $$ H
  icases H with ⟨HO, HL⟩
  unfold WP
  rw [wp_ret]
  imodintro
  iapply Hk
  ihave H := (finish m c) $$ [HL Hd Ha0 Ho0 Hzb Hz]
  · isplitl [HL]; · iexact HL
    isplitl [Hd]; · iexact Hd
    isplitl [Ha0 Ho0]; · isplitl [Ha0] <;> iassumption
    isplitl [Hzb] <;> iassumption
  icases H with ⟨Ha, Ho, Hz⟩
  unfold bodyEnd
  isplitl [Ha]; · iexact Ha
  isplitl [Hz]; · iexact Hz
  isplitl [HO]; · iexact HO
  isplitl [Hx]; · iexact Hx
  isplitl [Hw] <;> iassumption

end Cert.KernelIdeal.Exchange
-- ==== Proof.KernelIdeal.Launch.lean ====
/- The body as the pipeline's one point, and the launch: the cells and their tokens, the credit each device starts with,
   and the run of the whole program. -/
module

public import proofs.«01_k».proof.Proof.KernelIdeal.Body
public import proofs.«01_k».proof.Proof.Gen.KernelIdeal.Launch
public import Idealize.ShloMosaic.Lib.Pipeline.CollectiveSegs

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UA ℕ

variable (m : (ℓ : Loc nD τ sig) → Buf (Elt F) ℓ) (ρ : Dev nD → PrngReg)

/-! ## The one point -/

/-- Any launch memory, every counter at zero. -/
def s₀ : MemSt nD τ sig (Elt F) := ⟨m, fun _ => 0, ρ⟩

def Φ₀ (c : Dev nD) : sProp 𝕄 :=
  iprop(((∃ K, ghost m K c) ∗ startCred (F := F) c) ∗ ∃ f, held (F := F) c cc0_scratch0 f)
def Φ₁ (c : Dev nD) : sProp 𝕄 := iprop(held c cc0_scratch0 (accVal m c) ∗ zeros (F := F) c)

def dats (_ : Fin 1) (c : Dev nD) : Dat τ (Elt F) Unit ℕ UA ℕ cfg0 c where
  A w := (s₀ m ρ).mem ((cfg0.win w).arr.view.loc (c : Thread nD τ))
  after w _ := match w with
    | ⟨0, _⟩ => xstg m c
    | ⟨1, _⟩ => wstg m c
    | ⟨2, _⟩ => outVal m c
  Φ t := match t with
    | ⟨0, _⟩ => Φ₀ m c
    | ⟨_ + 1, _⟩ => Φ₁ m c
  q _ := fullShare
  owed t := match t with
    | ⟨0, _⟩ => oweAll c
    | ⟨_ + 1, _⟩ => 0

omit [FloatOps F] in
theorem owns_held (c : Dev nD) (b : Ref sig .tc) (X : b.ty.Contents (Elt F)) :
    (owns (Ix := Unit) (Name := ℕ) (U := UA) (Lvl := ℕ) (c : Thread nD τ) (Memref.whole b) fullShare X : sProp 𝕄)
      = iprop(∃ f : Buf (Elt F) ((c : Thread nD τ).loc b), ⌜f = X⌝ ∗ held c b f) := by
  unfold owns; simp only [Memref.view_whole, View.read_whole, View.set_whole]

/-- What the point starts from. -/
def pointStart (c : Dev nD) : sProp 𝕄 :=
  iprop(Φ₀ m c ∗ (dats m ρ 0 c).owesAt () t0_0.castSucc
    ∗ (∃ d, ∃ f : Buf (Elt F) ((c : Thread nD τ).loc cc0_stg0_0), ⌜f = (dats m ρ 0 c).before (0 : Fin 3) t0_0 d⌝ ∗ held c cc0_stg0_0 f)
    ∗ (∃ d, ∃ f : Buf (Elt F) ((c : Thread nD τ).loc cc0_stg1_0), ⌜f = (dats m ρ 0 c).before (1 : Fin 3) t0_0 d⌝ ∗ held c cc0_stg1_0 f)
    ∗ (∃ d, ∃ f : Buf (Elt F) ((c : Thread nD τ).loc cc0_stg2_0), ⌜f = (dats m ρ 0 c).before (2 : Fin 3) t0_0 d⌝ ∗ held c cc0_stg2_0 f))
/-- What it ends in. -/
def pointEnd (c : Dev nD) : sProp 𝕄 :=
  iprop(Φ₁ m c ∗ (dats m ρ 0 c).owesAt () t0_0.succ
    ∗ (∃ f : Buf (Elt F) ((c : Thread nD τ).loc cc0_stg0_0), ⌜f = xstg m c⌝ ∗ held c cc0_stg0_0 f)
    ∗ (∃ f : Buf (Elt F) ((c : Thread nD τ).loc cc0_stg1_0), ⌜f = wstg m c⌝ ∗ held c cc0_stg1_0 f)
    ∗ (∃ f : Buf (Elt F) ((c : Thread nD τ).loc cc0_stg2_0), ⌜f = outVal m c⌝ ∗ held c cc0_stg2_0 f))

theorem fetched0 (c : Dev nD) (d) : (dats m ρ 0 c).before (0 : Fin 3) t0_0 d = xstg m c := by
  unfold Dat.before; rw [if_pos (by rfl)]; rfl
theorem fetched1 (c : Dev nD) (d) : (dats m ρ 0 c).before (1 : Fin 3) t0_0 d = wstg m c := by
  unfold Dat.before; rw [if_pos (by rfl)]; rfl

theorem point_runs (c : Dev nD) :
    pointStart m ρ c ⊢ WP c (cc0_body (F := F) xM (Memref.isWhole_whole _) wM (Memref.isWhole_whole _) oM (Memref.isWhole_whole _) aM (Memref.isWhole_whole _) cc0_scratch1 cc0_scratch2) fun _ => pointEnd m ρ c := by
  unfold pointStart Φ₀
  simp only [fetched0, fetched1]
  iintro ⟨⟨⟨⟨%K, Hg⟩, Hcr⟩, Ha⟩, Hown, ⟨%_, %f0, %h0, Hx⟩, ⟨%_, %f1, %h1, Hw⟩, ⟨%_, %f2, %_, Ho⟩⟩
  subst h0 h1
  unfold Dat.owesAt Pipeline.owesWithin
  icases Hown with ⟨%W, %_, HO⟩
  rw [show (dats m ρ 0 c).owed t0_0.castSucc = oweAll c from rfl]
  iapply (body_runs m K c fun _ => pointEnd m ρ c)
  unfold bodyStart
  isplitr []
  · isplitl [Hg]; · iexact Hg
    isplitl [Hcr]; · iexact Hcr
    isplitl [Ha]; · iexact Ha
    isplitl [HO]; · iexists W; iexact HO
    isplitl [Hx]; · iexact Hx
    isplitl [Hw]; · iexact Hw
    iexists f2; iexact Ho
  unfold bodyEnd pointEnd Φ₁ Dat.owesAt Pipeline.owesWithin
  rw [show (dats m ρ 0 c).owed t0_0.succ = 0 from rfl]
  iintro ⟨Ha, Hz, ⟨%W', HO⟩, Hx, Hw, Ho⟩
  isplitl [Ha Hz]; · isplitl [Ha] <;> iassumption
  isplitl [HO]
  · iexists W'
    isplitr; · (ipureintro; exact fun _ _ => Or.inl trivial)
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

theorem body_obligation (c : Dev nD) : BodyObligation (dats (F := F) m ρ 0 c) (defs₀ (F := F)) 𝒱₀ () Set.univ := fun t => by
  rw [fin_N0 t]
  rw [bigSep_W0, bigSep_W0]
  simp only [owns_held]
  exact point_runs m ρ c

/-! ## The cells and the tokens -/

theorem sendSem_inj {a b : Fin 32} (h : sendSem a = sendSem b) : a = b := by
  have h1 : 3 + a.val = 3 + b.val := congrArg Fin.val h
  exact Fin.ext (by omega)
theorem recvSem_inj {a b : Fin 32} (h : recvSem a = recvSem b) : a = b := by
  have h1 : 35 + a.val = 35 + b.val := congrArg Fin.val h
  exact Fin.ext (by omega)
theorem send_ne_recv (a b : Fin 32) : sendSem a ≠ recvSem b := fun h => by
  have h1 : 3 + a.val = 35 + b.val := congrArg Fin.val h
  have := a.isLt
  omega

theorem dma_ne_reg (q) (r) : (SemLoc.dma q : SemLoc sig) ≠ SemLoc.reg r := nofun

theorem ownSem_inj : Function.Injective ownSem := by
  rintro (a | a) (b | b) h
  · exact congrArg _ (sendSem_inj (SemLoc.dma.inj h))
  · exact absurd (SemLoc.dma.inj h) (send_ne_recv a b)
  · exact absurd (SemLoc.dma.inj h).symm (send_ne_recv b a)
  · exact congrArg _ (recvSem_inj (SemLoc.dma.inj h))
theorem ownSem_ne_bar (x : Fin 32 ⊕ Fin 32) : ownSem x ≠ SemLoc.reg barS := by
  rcases x with a | a <;> exact dma_ne_reg _ _
theorem cellSem_inj : Function.Injective cellSem := by
  rintro (a | a) (b | b) h
  · rfl
  · exact absurd h.symm (ownSem_ne_bar b)
  · exact absurd h (ownSem_ne_bar a)
  · exact congrArg _ (ownSem_inj h)
theorem dev_of_cell {p q : Dev nD} {a b : SemLoc sig} (h : (((p : Thread nD τ), a) : GSem nD τ sig) = ((q : Thread nD τ), b)) : p = q :=
  congrArg (fun g : GSem nD τ sig => g.1.1) h
theorem cellAt_inj : Function.Injective cellAt := by
  rintro ⟨c, x⟩ ⟨d, y⟩ h
  have h1 : c = d := dev_of_cell h
  have h2 : x = y := cellSem_inj (congrArg Prod.snd h)
  rw [h1, h2]
def allCells : Finset (GSem nD τ sig) := Finset.univ.map ⟨cellAt, cellAt_inj⟩

theorem ownSemFacts : Pipeline.OwnSemFacts cfg0.spec ownSem where
  isScoped := by decide
  inj := ownSem_inj
  disj := by
    have hstg : ∀ (w : Fin cfg0.W) (s : Fin (cfg0.spec w).nbuf), ((cfg0.spec w).sem s).val < 3 := by decide
    intro k w s h
    have hk : ∃ q : DmaSem sig, ownSem k = .dma q ∧ 3 ≤ q.val := by
      rcases k with a | a
      · exact ⟨sendSem a, rfl, Nat.le_add_right 3 a.val⟩
      · exact ⟨recvSem a, rfl, le_trans (by decide) (Nat.le_add_right 35 a.val)⟩
    obtain ⟨q, hq, h3⟩ := hk
    have hv : q = (cfg0.spec w).sem s := SemLoc.dma.inj (hq.symm.trans h)
    have hs : ((cfg0.spec w).sem s).val < 3 := hstg w s
    rw [hv] at h3
    omega

/-- A device's cells' tokens as minted: its entry cell's, one per other device (and an unused one); one per departure cell;
    one per arrival cell. -/
def tokAt (p : Dev nD × (Fin 32 ⊕ (Fin 32 ⊕ Fin 32))) : GSem nD τ sig × ℕ × Fin 32 := match p.2 with
  | .inl d => (barCell p.1, 0, d)
  | .inr x => (((p.1 : Thread nD τ), ownSem x), 0, 0)
theorem tokAt_inj : Function.Injective tokAt := by
  rintro ⟨c, x⟩ ⟨d, y⟩ h
  have hc : (tokAt (c, x)).1 = (tokAt (d, y)).1 := congrArg Prod.fst h
  have hd : (tokAt (c, x)).2.2 = (tokAt (d, y)).2.2 := congrArg (fun z => z.2.2) h
  rcases x with a | a <;> rcases y with b | b
  · have h1 : c = d := dev_of_cell hc
    have h2 : a = b := hd
    rw [h1, h2]
  · exact absurd (congrArg Prod.snd hc).symm (ownSem_ne_bar b)
  · exact absurd (congrArg Prod.snd hc) (ownSem_ne_bar a)
  · have h1 : c = d := dev_of_cell hc
    have h2 : a = b := ownSem_inj (congrArg Prod.snd hc)
    rw [h1, h2]
def allToks : Finset (GSem nD τ sig × ℕ × Fin 32) := Finset.univ.map ⟨tokAt, tokAt_inj⟩

def u₀ : UA := (initOf (Pipeline.cells cfgs cellOf_inj) (Pipeline.launchToks cfgs cellOf_inj), initOf allCells allToks)

/-- The tokens of device `c`'s own cells. -/
def minted (c : Dev nD) : sProp 𝕄 :=
  iprop((bigSep Finset.univ fun d : Fin 32 => dutyTok EX (barCell c) 0 d)
    ∗ (bigSep Finset.univ fun k : Fin 32 => dutyTok EX (sendCell c k) 0 0) ∗ bigSep Finset.univ fun s : Fin 32 => dutyTok EX (recvCell c s) 0 0)

/-- What the launch element deals device `c`. -/
def G (c : Dev nD) : sProp 𝕄 :=
  iprop((bigSep Finset.univ fun x => roundState EX (sched m) (cellAt (c, x)) 0)
    ∗ ((bigSep Finset.univ fun x => atPos EX (cellAt (c, x)) 0 ∅ 0) ∗ bigSep Finset.univ fun x => reached EX (cellAt (c, x)) 0) ∗ minted (F := F) c)
/-- What the global step makes of it. -/
def G' (c : Dev nD) : sProp 𝕄 := iprop(∃ K, ghost m K c)

theorem fund_all : BI.own (EX (initOf allCells allToks)) ⊢ (|==> bigSep Finset.univ (G m) : sProp 𝕄) := by
  have hX (Φ : GSem nD τ sig → sProp 𝕄) : bigSep allCells Φ = bigSep Finset.univ fun c : Dev nD => bigSep Finset.univ fun x => Φ (cellAt (c, x)) := by
    unfold allCells; rw [bigSep_map, bigSep_univ_prod]; rfl
  have hT : bigSep allToks (fun x => (dutyTok EX x.1 x.2.1 x.2.2 : sProp 𝕄)) = bigSep Finset.univ fun c : Dev nD => minted c := by
    unfold allToks; rw [bigSep_map, bigSep_univ_prod]
    exact bigSep_congr fun c _ => by unfold minted; rw [bigSep_univ_sum, bigSep_univ_sum]; rfl
  iintro HX
  imod (Rounds.fund EX (sched m) allCells allToks) $$ HX with ⟨Hst, Hr, Hat, Htok⟩
  imodintro
  ihave Hst := (Entails.of_eq (hX fun g => roundState EX (sched m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G
  rw [bigSep_sep', bigSep_sep', bigSep_sep']
  isplitl [Hst]; · iexact Hst
  isplitl [Hat Hr]
  · isplitl [Hat] <;> iassumption
  iexact Htok

theorem unscoped_bar (c : Dev nD) : (unscopedSems0 c : sProp 𝕄) = semVal (barCell c) 0 := by
  unfold unscopedSems0; rw [bigSep_eq_bigSepL_of_eq [SemLoc.reg barS] (by decide) (by decide)]; rfl

theorem own_zeros (c : Dev nD) : (Pipeline.ownSems0 (Ix := Unit) (Name := ℕ) (U := UA) (Lvl := ℕ) (Val := Elt F) (τ := τ) ownSem c : sProp 𝕄)
    = iprop((bigSep Finset.univ fun k => semVal (sendCell c k) 0) ∗ bigSep Finset.univ fun s => semVal (recvCell c s) 0) := by
  unfold Pipeline.ownSems0; rw [bigSep_univ_sum]; rfl

theorem start_zeros (c : Dev nD) :
    iprop(Pipeline.ownSems0 (Ix := Unit) (Name := ℕ) (U := UA) (Lvl := ℕ) (Val := Elt F) (τ := τ) ownSem c ∗ unscopedSems0 c)
      ⊢ (bigSep Finset.univ fun x => semVal (cellAt (c, x)) 0 : sProp 𝕄) := by
  have h1 : (bigSep Finset.univ fun x => semVal (cellAt (c, x)) 0 : sProp 𝕄)
      = iprop((bigSep Finset.univ fun _ : Unit => semVal (barCell c) 0) ∗ Pipeline.ownSems0 ownSem c) := by
    rw [bigSep_univ_sum]; rfl
  have h2 : (bigSep (Finset.univ : Finset Unit) fun _ => (semVal (barCell c) 0 : sProp 𝕄)) = semVal (barCell c) 0 := bigSep_singleton
  rw [h1, h2, unscoped_bar]
  iintro ⟨H1, H2⟩
  isplitl [H2] <;> iassumption

theorem alloc_one (c : Dev nD) :
    iprop(Pipeline.ownSems0 (Ix := Unit) (Name := ℕ) (U := UA) (Lvl := ℕ) (Val := Elt F) (τ := τ) ownSem c ∗ unscopedSems0 c ∗ G m c)
      ⊢ |={Set.univ}=> iprop((bigSep Finset.univ fun x => iprop(∃ κ : ℕ, cellInv EX (sched m) κ (cellAt (c, x))))
          ∗ ((bigSep Finset.univ fun x => atPos EX (cellAt (c, x)) 0 ∅ 0) ∗ bigSep Finset.univ fun x => reached EX (cellAt (c, x)) 0) ∗ minted (F := F) c) := by
  have halloc : iprop((bigSep Finset.univ fun x => semVal (cellAt (c, x)) 0) ∗ bigSep Finset.univ fun x => roundState EX (sched m) (cellAt (c, x)) 0)
      ⊢ (|={Set.univ}=> bigSep Finset.univ fun x => iprop(∃ κ : ℕ, cellInv EX (sched m) κ (cellAt (c, x))) : sProp 𝕄) := by
    rw [← bigSep_sep']
    exact (bigSep_mono fun x _ => (Rounds.body_intro EX (sched m) (cellAt (c, x))).trans inv_alloc).trans (bigSep_fupd _ _)
  unfold G
  iintro ⟨Hos, Hus, Hst, Hrest⟩
  ihave Hv := (start_zeros (F := F) c) $$ [Hos Hus]
  · isplitl [Hos] <;> iassumption
  imod halloc $$ [Hv Hst] with Hinv
  · isplitl [Hv] <;> iassumption
  imodintro
  isplitl [Hinv] <;> iassumption

/-- From (owner of a cell, the device it hears from) to (the device, its step). -/
def payerEquiv : Dev nD × Fin 32 ≃ Dev nD × Fin 32 where
  toFun p := (tgt p.1 p.2, p.1)
  invFun q := (q.2, src q.1 q.2)
  left_inv p := Prod.ext rfl (back_tgt p.1 p.2)
  right_inv q := Prod.ext (tgt_back q.2 q.1) rfl

theorem deal (Φ : Dev nD → Fin 32 → sProp 𝕄) :
    (bigSep Finset.univ fun c : Dev nD => bigSep Finset.univ fun x : Fin 32 => Φ c x)
      = bigSep Finset.univ fun c : Dev nD => bigSep Finset.univ fun k : Fin 32 => Φ (tgt c k) c := by
  rw [← bigSep_univ_prod (fun p : Dev nD × Fin 32 => Φ p.1 p.2), bigSep_univ_equiv payerEquiv, bigSep_univ_prod]
  rfl

/-- Every token to the device that pays with it. -/
theorem tokens_dealt : (bigSep Finset.univ fun c : Dev nD => (minted c : sProp 𝕄)) ⊢ bigSep Finset.univ fun c : Dev nD => bigSep Finset.univ (tokens (F := F) c) := by
  have h (c : Dev nD) : bigSep Finset.univ (tokens (F := F) c)
      = iprop((bigSep Finset.univ fun k => dutyTok EX (barCell (tgt c k)) 0 c) ∗ (bigSep Finset.univ fun k => dutyTok EX (recvCell (tgt c k) c) 0 0)
        ∗ bigSep Finset.univ fun k => dutyTok EX (sendCell c k) 0 0) := by
    unfold tokens; rw [bigSep_sep', bigSep_sep']
  unfold minted
  rw [bigSep_congr (s := Finset.univ) (fun c _ => h c), bigSep_sep', bigSep_sep', bigSep_sep', bigSep_sep',
    deal fun c x => dutyTok EX (barCell c) 0 x, deal fun c x => dutyTok EX (recvCell c x) 0 0]
  iintro ⟨H1, H2, H3⟩
  isplitl [H1]; · iexact H1
  isplitl [H3] <;> iassumption

theorem ghost_from (K : Names) (c : Dev nD) :
    iprop(known m K ∗ ((bigSep Finset.univ fun x => atPos EX (cellAt (c, x)) 0 ∅ 0) ∗ bigSep Finset.univ (tokens (F := F) c))) ⊢ G' m c := by
  have h1 : (bigSep Finset.univ fun x => (atPos EX (cellAt (c, x)) 0 ∅ 0 : sProp 𝕄))
      = iprop((bigSep Finset.univ fun _ : Unit => atPos EX (barCell c) 0 ∅ 0)
        ∗ (bigSep Finset.univ fun k => atPos EX (sendCell c k) 0 ∅ 0) ∗ bigSep Finset.univ fun s => atPos EX (recvCell c s) 0 ∅ 0) := by
    rw [bigSep_univ_sum, bigSep_univ_sum]; rfl
  have h2 : (bigSep (Finset.univ : Finset Unit) fun _ => (atPos EX (barCell c) 0 ∅ 0 : sProp 𝕄)) = atPos EX (barCell c) 0 ∅ 0 := bigSep_singleton
  unfold G' ghost
  rw [h1, h2]
  iintro ⟨HK, ⟨Hb, Hs, Hr⟩, Ht⟩
  iexists K
  isplitl [HK]; · iexact HK
  isplitl [Hb]; · iexact Hb
  isplitl [Hs]; · iexact Hs
  isplitl [Hr] <;> iassumption

theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem gather :
    (bigSep Finset.univ fun c : Dev nD => iprop((bigSep Finset.univ fun x => iprop(∃ κ : ℕ, cellInv EX (sched m) κ (cellAt (c, x))))
          ∗ ((bigSep Finset.univ fun x => atPos EX (cellAt (c, x)) 0 ∅ 0) ∗ bigSep Finset.univ fun x => reached EX (cellAt (c, x)) 0) ∗ minted (F := F) c) : sProp 𝕄)
      ⊢ bigSep Finset.univ (G' m) := by
  rw [bigSep_sep', bigSep_sep', bigSep_sep', ← bigSep_univ_prod (fun p => iprop(∃ κ : ℕ, cellInv EX (sched m) κ (cellAt p))),
    ← bigSep_univ_prod (fun p => (reached EX (cellAt p) 0 : sProp 𝕄))]
  iintro ⟨HI, ⟨Hat, #HR⟩, Htok⟩
  ihave HK := (BI.bigSep_exists_pi Finset.univ (fun p (κ : ℕ) => (cellInv EX (sched m) κ (cellAt p) : sProp 𝕄))) $$ HI
  icases HK with ⟨%K, #HI⟩
  ihave Htok := (tokens_dealt (F := F)) $$ Htok
  iapply (spread (R := known m K) fun c _ => ghost_from m K c)
  isplitr
  · unfold known
    isplitl; · iexact HI
    iexact HR
  · rw [bigSep_sep']
    isplitl [Hat] <;> iassumption

theorem glob : (bigSep Finset.univ fun c => iprop(Pipeline.ownSems0 (Ix := Unit) (Name := ℕ) (U := UA) (Lvl := ℕ) (Val := Elt F) (τ := τ) ownSem c ∗ unscopedSems0 c ∗ G m c) : sProp 𝕄)
    ⊢ |={Set.univ}=> bigSep Finset.univ (G' m) :=
  ((bigSep_mono fun c _ => alloc_one m c).trans (bigSep_fupd _ _)).trans (BI.fupd_mono (gather m))

/-! ## The launch credit -/

theorem bar_iff {a b : Dev nD} : (barCell a = barCell b) ↔ a = b := ⟨fun h => dev_of_cell h, fun h => h ▸ rfl⟩
theorem recv_iff {a b : Dev nD} {s t : Fin 32} : (recvCell a s = recvCell b t) ↔ a = b ∧ s = t :=
  ⟨fun h => ⟨dev_of_cell h, recvSem_inj (SemLoc.dma.inj (congrArg Prod.snd h))⟩, fun h => by rw [h.1, h.2]⟩
theorem recv_ne_bar (a b : Dev nD) (s : Fin 32) : recvCell a s ≠ barCell b := fun h => dma_ne_reg _ _ (congrArg Prod.snd h)
theorem tgt_iff {d c k : Fin 32} : tgt d k = c ↔ d = src c k := ⟨fun h => by rw [← h, src_tgt], fun h => by rw [h, tgt_src]⟩

theorem owed_bar (d c : Dev nD) : oweAll d (barCell c) () = ∑ k ∈ Ge 1, if d = src c k then 1 else 0 := by
  unfold oweAll recvOwe entryOwe
  rw [Pi.add_apply, Finsupp.add_apply, sum_tally_apply, sum_tally_apply,
    Finset.sum_eq_zero fun k _ => if_neg (recv_ne_bar (tgt d k) c d), Nat.zero_add]
  refine Finset.sum_congr rfl fun k _ => ?_
  by_cases h : d = src c k
  · rw [if_pos h, if_pos (bar_iff.mpr (tgt_iff.mpr h))]
  · rw [if_neg h, if_neg fun h' => h (tgt_iff.mp (bar_iff.mp h'))]

theorem owed_recv (d c : Dev nD) (j : Fin 32) (hj : j ∈ Ge 1) : oweAll d (recvCell c (src c j)) () = if d = src c j then N else 0 := by
  unfold oweAll recvOwe entryOwe
  rw [Pi.add_apply, Finsupp.add_apply, sum_tally_apply, sum_tally_apply,
    Finset.sum_eq_zero (s := Ge 1) (f := fun k => if barCell (tgt d k) = recvCell c (src c j) then 1 else 0)
      fun k _ => if_neg (recv_ne_bar c (tgt d k) (src c j)).symm, Nat.add_zero]
  by_cases h : d = src c j
  · rw [if_pos h, Finset.sum_eq_single j]
    · rw [if_pos (recv_iff.mpr ⟨tgt_iff.mpr h, h⟩)]
    · intro k _ hk
      refine if_neg fun h' => hk ?_
      have h1 : tgt d k = tgt d j := (recv_iff.mp h').1.trans (tgt_iff.mpr h).symm
      rw [← back_tgt d k, h1, back_tgt]
    · exact fun h' => absurd hj h'
  · rw [if_neg h, Finset.sum_eq_zero fun k _ => if_neg fun h' => h (recv_iff.mp h').2]

theorem credit_bar (c : Dev nD) :
    tallyOn (barCell c) (launchCredit (Pipeline.owing oweAll) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => Finset.sum_ite_eq' Finset.univ (src c k) fun _ => 1]
  simp only [Finset.mem_univ, if_true]
  decide
theorem credit_recv (c : Dev nD) (j : Fin 32) (hj : j ∈ Ge 1) :
    tallyOn (recvCell c (src c j)) (launchCredit (Pipeline.owing oweAll) 0 (recvCell c (src c j))) = (tallyAt (recvCell c (src c j)) () N : CellTallies nD τ sig Unit) := by
  unfold tallyAt; refine congrArg _ (Finsupp.ext fun u => ?_); cases u
  rw [Pipeline.launchCredit_owing, Finsupp.single_eq_same, Finset.sum_congr rfl fun d _ => owed_recv d c j hj,
    Finset.sum_ite_eq' Finset.univ (src c j) fun _ => N, if_pos (Finset.mem_univ _)]

def recvEmb (c : Dev nD) : Fin 32 ↪ SemLoc sig :=
  ⟨fun k => .dma (recvSem (src c k)), fun a b h => (srcEquiv c).injective (recvSem_inj (SemLoc.dma.inj h))⟩

theorem start_credits (c : Dev nD) :
    (Pipeline.launchCred oweAll c : sProp 𝕄) ⊢ iprop(cred (tallyAt (barCell c) () 31) ∗ bigSep (Ge 1) fun k => cred (tallyAt (recvCell c (src c k)) () N)) := by
  have hsub : (Ge 1).map (recvEmb c) ⊆ Finset.univ.erase (SemLoc.reg barS) := by
    intro x hx
    obtain ⟨k, -, rfl⟩ := Finset.mem_map.mp hx
    exact Finset.mem_erase.mpr ⟨dma_ne_reg _ _, Finset.mem_univ _⟩
  unfold Pipeline.launchCred
  rw [bigSep_univ_at _ (SemLoc.reg barS), credit_bar]
  refine sep_mono_right ((bigSep_subset hsub).trans ?_)
  rw [bigSep_map]
  exact bigSep_mono fun k hk => Entails.of_eq (congrArg cred (credit_recv c k hk))

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts levels lev
        ∗ Pipeline.launchCred oweAll c ∗ prngReg c (ρ c) ∗ G' m c)
      ⊢ |={Set.univ}=> iprop(((∃ K, ghost m K c) ∗ startCred (F := F) c) ∗ emp) := by
  iintro ⟨-, Hlev, Hcr, -, HG⟩
  ihave Hc := (start_credits (F := F) c) $$ Hcr
  icases Hc with ⟨H1, HN⟩
  imodintro
  unfold G' startCred
  isplitl
  · isplitl [HG]; · iexact HG
    isplitl [H1]; · iexact H1
    isplitl [HN] <;> iassumption
  iempintro

theorem enter_point (c : Dev nD) :
    iprop(((∃ K, ghost m K c) ∗ startCred (F := F) c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem leave_point (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = Φ₁ m c from rfl, scopedRest0_eq, own_zeros, unscoped_bar]
  unfold Φ₁ zeros
  iintro ⟨Ha, Hb, Hz⟩
  isplitl [Hb]; · iexact Hb
  isplitl [Hz]; · iexact Hz
  iexists _; iexact Ha

theorem waits (c : Dev nD) : (levAts levels lev : sProp 𝕄) ⊢ Pipeline.cellsWaits cfgs (dats m ρ) () 0 c :=
  Pipeline.cellsWaits_intro cfgs (dats m ρ) () 0 c fun w s t =>
    mayWait_low c _ (by revert w s; decide) _ (by
      rcases t with ⟨_ | _, ht⟩
      · exact Or.inl rfl
      · exact Or.inr rfl)

/-- Window `w`'s array on device `c` at the end. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, the program on the 32 devices ends in every weakly fair execution, with each device's
    arrays at the stated contents and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := oweAll) (howed₀ := fun _ => rfl) (howedN := fun _ => rfl)
    (L := levels) (lv := lev) (hL := levels_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := fun c => iprop((∃ K, ghost m K c) ∗ startCred (F := F) c)) (Y := fun c => unscopedSems0 c) (Z := fun _ => iprop(emp))
    (hX := start_intro m ρ) (hin := enter_point m ρ) (hout := leave_point m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Exchange
-- ==== Proof.KernelIdeal.Outcome.lean ====
/- The outcome of the run: each device's result, its arguments as they were, every counter at zero. -/
module

public import proofs.«01_k».proof.Proof.KernelIdeal.Launch

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ) (ρ : Dev nD → PrngReg)

/-- Each window is its whole array: reading its block reads the array. -/
theorem arr_x (f : (main_arg0 : Ref sig .tc).ty.Contents (Elt F)) : (win0_0.blk (0 : Fin 1)).view.read (Elt F) f = f :=
  Memref.read_access_unit_zero (Elt F) main_arg0 (funext fun a => by fin_cases a <;> decide) (fun a => by fin_cases a <;> decide) f
theorem arr_w (f : (main_arg1 : Ref sig .tc).ty.Contents (Elt F)) : (win0_1.blk (0 : Fin 1)).view.read (Elt F) f = f :=
  Memref.read_access_unit_zero (Elt F) main_arg1 (funext fun a => by fin_cases a <;> decide) (fun a => by fin_cases a <;> decide) f
theorem arr_out (f : (main_v1 : Ref sig .tc).ty.Contents (Elt F)) : (win0_2.blk (0 : Fin 1)).view.read (Elt F) f = f :=
  Memref.read_access_unit_zero (Elt F) main_v1 (funext fun a => by fin_cases a <;> decide) (fun a => by fin_cases a <;> decide) f

/-- The operands a device multiplies are its two arguments. -/
theorem xstg_eq (c : Dev nD) : xstg m c = m ((c : Thread nD τ).loc main_arg0) := arr_x _
theorem wstg_eq (c : Dev nD) : wstg m c = m ((c : Thread nD τ).loc main_arg1) := arr_w _

/-- The result array ends at what the body leaves in its window. -/
theorem final_out (c : Dev nD) : finalA m ρ c (2 : Fin 3) = outVal m c := by
  rw [← arr_out (finalA m ρ c (2 : Fin 3))]
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from by decide, if_pos rfl]
  exact View.read_write_univ _ _

/-- The program on the 32 devices, from any memory with zero counters: every weakly fair execution ends, each device's
    result at `outVal`, its arguments unchanged, every counter at zero. -/
theorem outcome : θ_run defs (onTc (τ := τ) (main (F := F))) ⟨m, fun _ => 0, ρ⟩ (fun r =>
    (∀ c : Dev nD, r.2.mem ((c : Thread nD τ).loc main_v1) = outVal m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c (2 : Fin 3)).trans (final_out m ρ c),
      (h.1 c (0 : Fin 3)).trans ((dats m ρ 0 c).arrAt_in (0 : Fin 3) rfl _),
      (h.1 c (1 : Fin 3)).trans ((dats m ρ 0 c).arrAt_in (1 : Fin 3) rfl _)⟩, h.2⟩) (run_main m ρ)

end Cert.KernelIdeal.Exchange
-- ==== Proof.Value.lean ====
/- What the program and the reference compute over the extended reals: device `c`'s result is columns `64 c` to `64 c + 63`
   of the whole product, clamped at zero. -/
module

public import proofs.«01_k».proof.Proof.KernelIdeal.Outcome
public import proofs.«01_k».proof.Proof.Gen.ReferenceIdeal.Run
public import Idealize.ShloMosaic.Lib.Layout
public import Idealize.ShloMosaic.Lib.StackMember
public import Idealize.ShloMosaic.Lib.IdealHost
public import Idealize.ShloMosaic.Lib.ValueIdx

@[expose] public section

noncomputable section

namespace Cert.Value

open Idealize.ShloMosaic Idealize.ShloMosaic.ValueIdx Idealize.ShloMosaic.TcCoe
open Cert.KernelIdeal.Exchange

/-- The clamped product of a row and a column. -/
def entry (row col : Fin 4096 → EReal) : EReal := max (∑ k, row k * col k) 0

theorem kernel_dims : Cert.KernelIdeal.dot_S128x4096_S4096x2048_S128x2048_1_0_0_1_n_n = DotDims.plain 128 4096 2048 := rfl
theorem reference_dims : Cert.ReferenceIdeal.dot_S4096x4096_S4096x2048_S4096x2048_1_0_0_1_n_n = DotDims.plain 4096 4096 2048 := rfl

/-- A shape cast to the same shape changes nothing. -/
theorem cast_same {s : Shape} {α : Type} (v : s.Idx → α) (h : s.ShapeCasts s) : shapeCast s v h = v :=
  funext fun i => congrArg v (Shape.reshapeEquiv_self h i)

/-- An entry of what one device computes from its rows `x` and the right operand `w`. -/
theorem kernel_entry (x : Vec Ideal Cert.KernelIdeal.S128x4096 .bf16) (w : Vec Ideal Cert.KernelIdeal.S4096x2048 .bf16) (r : Fin 128) (c : Fin 2048) :
    Cert.KernelIdeal.Gen.k0_pay1 x w (ix2 r c) = entry (fun k => x (ix2 r k)) (fun k => w (ix2 k c)) := by
  unfold Cert.KernelIdeal.Gen.k0_pay1 entry
  dsimp only
  rw [cast_same, cast_same, matmul_zero_eq_dotGeneral, kernel_dims]
  show max (Host.dotGeneral (DotDims.plain 128 4096 2048) none _ _ (ix2 r c)) (Ideal.ofBits .f32 0x00000000#32) = _
  rw [StackMember.dotGeneral_plain_apply, Ideal.ofBits_zero_f32]

/-- The reference's result from its two arguments. -/
def whole (x : FVec Ideal Cert.ReferenceIdeal.S4096x4096 .bf16) (w : FVec Ideal Cert.ReferenceIdeal.S4096x2048 .bf16) : FVec Ideal Cert.ReferenceIdeal.S4096x2048 .f32 :=
  maximumf (extf .f32 (truncf .bf16 (Host.dotGeneral Cert.ReferenceIdeal.dot_S4096x4096_S4096x2048_S4096x2048_1_0_0_1_n_n none x w) Cert.ReferenceIdeal.Gen.bitsLt_bf16_f32) Cert.ReferenceIdeal.Gen.bitsLt_bf16_f32)
    (broadcastInDim Cert.ReferenceIdeal.S4096x2048 ![] Cert.ReferenceIdeal.Gen.bcast_S_S4096x2048 (constant Cert.ReferenceIdeal.S_ .f32 0x00000000#32))

/-- An entry of the reference's result. -/
theorem whole_entry (x : FVec Ideal Cert.ReferenceIdeal.S4096x4096 .bf16) (w : FVec Ideal Cert.ReferenceIdeal.S4096x2048 .bf16) (r : Fin 4096) (c : Fin 2048) :
    whole x w (ix2 r c) = entry (fun k => x (ix2 r k)) (fun k => w (ix2 k c)) := by
  unfold whole entry
  rw [reference_dims]
  show max (Host.dotGeneral (DotDims.plain 4096 4096 2048) none x w (ix2 r c)) (Ideal.ofBits .f32 0x00000000#32) = _
  rw [StackMember.dotGeneral_plain_apply, Ideal.ofBits_zero_f32]

open Cert.KernelIdeal in
/-- If every device holds its rows of `x` and a copy of `w`, device `c` ends with its columns of the reference's result. -/
theorem out_block (m : (ℓ : Loc nD τ sig) → Buf (Elt Ideal) ℓ)
    (x : FVec Ideal Cert.ReferenceIdeal.S4096x4096 .bf16) (w : FVec Ideal Cert.ReferenceIdeal.S4096x2048 .bf16)
    (hx : ∀ s : Dev nD, m ((s : Thread nD τ).loc main_arg0) = Layout.block ⟨2, ![128, 4096]⟩ ⟨2, ![4096, 4096]⟩ 0 32 s x)
    (hw : ∀ s : Dev nD, m ((s : Thread nD τ).loc main_arg1) = w) (c : Dev nD) :
    outVal m c = Layout.block ⟨2, ![4096, 64]⟩ ⟨2, ![4096, 2048]⟩ 1 32 c (whole x w) := by
  funext i
  have hi0 : (i 0).val < 4096 := (i 0).isLt
  have hi1 : (i 1).val < 64 := (i 1).isLt
  have hc : c.val < 32 := c.isLt
  have hcol : 64 * c.val + (i 1).val < 2048 := by omega
  have hR (h) : (Layout.Tiles.idx (S := ⟨2, ![4096, 64]⟩) (T := ⟨2, ![4096, 2048]⟩) (a := 1) (k := 32) h c i)
      = ix2 (⟨(i 0).val, hi0⟩ : Fin 4096) (⟨64 * c.val + (i 1).val, hcol⟩ : Fin 2048) := by
    funext a; apply Fin.ext
    match a with
    | ⟨0, _⟩ => rfl
    | ⟨1, _⟩ => show c.val * 64 + (i 1).val = 64 * c.val + (i 1).val; omega
  rw [Layout.block_apply, hR, whole_entry]
  unfold outVal prod
  rw [xstg_eq, wstg_eq, hx, hw]
  refine (kernel_entry _ _ _ _).trans ?_
  congr 1
  funext k
  rw [Layout.block_apply]
  refine congrArg x (funext fun a => Fin.ext ?_)
  match a with
  | ⟨0, _⟩ => show (i 0).val / 128 * 128 + (i 0).val % 128 = (i 0).val; omega
  | ⟨1, _⟩ => rfl

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Outcome
public import proofs.«01_k».proof.Proof.KernelIdeal.Outcome
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel as printed runs, leaves its arguments and ends with every counter at zero. -/
theorem frame_kernel : Cert.quiescent_Kernel := fun m ρ _ =>
  (θ_run Cert.Kernel.defs _ _).mono (fun _ h => ⟨fun c => (h.1 c).2, h.2⟩) (Cert.Kernel.Exchange.outcome (F := Bits) m ρ)

/-- So does the kernel over the extended reals. -/
theorem frame_ideal : Cert.quiescent_KernelIdeal := fun m ρ _ =>
  (θ_run Cert.KernelIdeal.defs _ _).mono (fun _ h => ⟨fun c => (h.1 c).2, h.2⟩) (Cert.KernelIdeal.Exchange.outcome (F := Ideal) m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Device `c`'s result is block `c` of the columns of the reference's result. -/
theorem same_function : Cert.algebraic_KernelIdeal_ReferenceIdeal := fun m ρ m' ρ' _ hagree =>
  ⟨_, (θ_run Cert.KernelIdeal.defs _ _).mono
      (fun _ h c => ⟨((h.1 c).1).trans (Cert.Value.out_block m _ _ (fun s => (hagree s).1) (fun s => (hagree s).2) c), (h.1 c).2⟩)
      (Cert.KernelIdeal.Exchange.outcome (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, same_function⟩

end Cert.Proof

end
